-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Slide (m : (ℓ : Loc Cert.Slide.nD Cert.Slide.τ Cert.Slide.sig) → Buf (Elt Bits) ℓ) : Prop :=
  True

def Pre_SlideIdeal (m : (ℓ : Loc Cert.SlideIdeal.nD Cert.SlideIdeal.τ Cert.SlideIdeal.sig) → Buf (Elt Ideal) ℓ) : Prop :=
  True

def Pre_SlideReferenceIdeal (m : (ℓ : Loc Cert.SlideReferenceIdeal.nD Cert.SlideReferenceIdeal.τ Cert.SlideReferenceIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleReferenceIdeal (m : (ℓ : Loc Cert.MixSampleReferenceIdeal.nD Cert.MixSampleReferenceIdeal.τ Cert.MixSampleReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Slide [hSlide : Cert.Slide.Facts] : Prop :=
  ∀ (m : (ℓ : Loc Cert.Slide.nD Cert.Slide.τ Cert.Slide.sig) → Buf (Elt Bits) ℓ) (g : Dev Cert.Slide.nD → PrngReg), Pre_Slide m →
    θ_run (Cert.Slide.defs (F := Bits)) (onTc (τ := Cert.Slide.τ) (Cert.Slide.main (F := Bits))) ⟨m, fun _ => 0, g⟩ (fun r => (∀ c : Dev Cert.Slide.nD,
      r.2.mem ((c.tc : Thread Cert.Slide.nD Cert.Slide.τ).loc Cert.Slide.main_arg0) = m ((c.tc : Thread Cert.Slide.nD Cert.Slide.τ).loc Cert.Slide.main_arg0)
      ∧ r.2.mem ((c.tc : Thread Cert.Slide.nD Cert.Slide.τ).loc Cert.Slide.main_arg1) = m ((c.tc : Thread Cert.Slide.nD Cert.Slide.τ).loc Cert.Slide.main_arg1)
      ∧ r.2.mem ((c.tc : Thread Cert.Slide.nD Cert.Slide.τ).loc Cert.Slide.main_arg2) = m ((c.tc : Thread Cert.Slide.nD Cert.Slide.τ).loc Cert.Slide.main_arg2)
      ∧ r.2.mem ((c.tc : Thread Cert.Slide.nD Cert.Slide.τ).loc Cert.Slide.main_arg3) = m ((c.tc : Thread Cert.Slide.nD Cert.Slide.τ).loc Cert.Slide.main_arg3)
      ∧ r.2.mem ((c.tc : Thread Cert.Slide.nD Cert.Slide.τ).loc Cert.Slide.main_arg4) = m ((c.tc : Thread Cert.Slide.nD Cert.Slide.τ).loc Cert.Slide.main_arg4))
      ∧ r.2.sem = fun _ => 0)

def quiescent_SlideIdeal [hSlideIdeal : Cert.SlideIdeal.Facts] : Prop :=
  ∀ (m : (ℓ : Loc Cert.SlideIdeal.nD Cert.SlideIdeal.τ Cert.SlideIdeal.sig) → Buf (Elt Ideal) ℓ) (g : Dev Cert.SlideIdeal.nD → PrngReg), Pre_SlideIdeal m →
    θ_run (Cert.SlideIdeal.defs (F := Ideal)) (onTc (τ := Cert.SlideIdeal.τ) (Cert.SlideIdeal.main (F := Ideal))) ⟨m, fun _ => 0, g⟩ (fun r => (∀ c : Dev Cert.SlideIdeal.nD,
      r.2.mem ((c.tc : Thread Cert.SlideIdeal.nD Cert.SlideIdeal.τ).loc Cert.SlideIdeal.main_arg0) = m ((c.tc : Thread Cert.SlideIdeal.nD Cert.SlideIdeal.τ).loc Cert.SlideIdeal.main_arg0)
      ∧ r.2.mem ((c.tc : Thread Cert.SlideIdeal.nD Cert.SlideIdeal.τ).loc Cert.SlideIdeal.main_arg1) = m ((c.tc : Thread Cert.SlideIdeal.nD Cert.SlideIdeal.τ).loc Cert.SlideIdeal.main_arg1)
      ∧ r.2.mem ((c.tc : Thread Cert.SlideIdeal.nD Cert.SlideIdeal.τ).loc Cert.SlideIdeal.main_arg2) = m ((c.tc : Thread Cert.SlideIdeal.nD Cert.SlideIdeal.τ).loc Cert.SlideIdeal.main_arg2)
      ∧ r.2.mem ((c.tc : Thread Cert.SlideIdeal.nD Cert.SlideIdeal.τ).loc Cert.SlideIdeal.main_arg3) = m ((c.tc : Thread Cert.SlideIdeal.nD Cert.SlideIdeal.τ).loc Cert.SlideIdeal.main_arg3)
      ∧ r.2.mem ((c.tc : Thread Cert.SlideIdeal.nD Cert.SlideIdeal.τ).loc Cert.SlideIdeal.main_arg4) = m ((c.tc : Thread Cert.SlideIdeal.nD Cert.SlideIdeal.τ).loc Cert.SlideIdeal.main_arg4))
      ∧ r.2.sem = fun _ => 0)

def quiescent_SlideReferenceIdeal [hSlideReferenceIdeal : Cert.SlideReferenceIdeal.Facts] : Prop :=
  ∀ (m : (ℓ : Loc Cert.SlideReferenceIdeal.nD Cert.SlideReferenceIdeal.τ Cert.SlideReferenceIdeal.sig) → Buf (Elt Ideal) ℓ) (g : Dev Cert.SlideReferenceIdeal.nD → PrngReg), Pre_SlideReferenceIdeal m →
    θ_run (Cert.SlideReferenceIdeal.defs (F := Ideal)) (onTc (τ := Cert.SlideReferenceIdeal.τ) (Cert.SlideReferenceIdeal.main (F := Ideal))) ⟨m, fun _ => 0, g⟩ (fun r => (∀ c : Dev Cert.SlideReferenceIdeal.nD,
      r.2.mem ((c.tc : Thread Cert.SlideReferenceIdeal.nD Cert.SlideReferenceIdeal.τ).loc Cert.SlideReferenceIdeal.main_arg0) = m ((c.tc : Thread Cert.SlideReferenceIdeal.nD Cert.SlideReferenceIdeal.τ).loc Cert.SlideReferenceIdeal.main_arg0)
      ∧ r.2.mem ((c.tc : Thread Cert.SlideReferenceIdeal.nD Cert.SlideReferenceIdeal.τ).loc Cert.SlideReferenceIdeal.main_arg1) = m ((c.tc : Thread Cert.SlideReferenceIdeal.nD Cert.SlideReferenceIdeal.τ).loc Cert.SlideReferenceIdeal.main_arg1)
      ∧ r.2.mem ((c.tc : Thread Cert.SlideReferenceIdeal.nD Cert.SlideReferenceIdeal.τ).loc Cert.SlideReferenceIdeal.main_arg2) = m ((c.tc : Thread Cert.SlideReferenceIdeal.nD Cert.SlideReferenceIdeal.τ).loc Cert.SlideReferenceIdeal.main_arg2)
      ∧ r.2.mem ((c.tc : Thread Cert.SlideReferenceIdeal.nD Cert.SlideReferenceIdeal.τ).loc Cert.SlideReferenceIdeal.main_arg3) = m ((c.tc : Thread Cert.SlideReferenceIdeal.nD Cert.SlideReferenceIdeal.τ).loc Cert.SlideReferenceIdeal.main_arg3)
      ∧ r.2.mem ((c.tc : Thread Cert.SlideReferenceIdeal.nD Cert.SlideReferenceIdeal.τ).loc Cert.SlideReferenceIdeal.main_arg4) = m ((c.tc : Thread Cert.SlideReferenceIdeal.nD Cert.SlideReferenceIdeal.τ).loc Cert.SlideReferenceIdeal.main_arg4))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8))
      ∧ r.2.sem = fun _ => 0)

def quiescent_MixSampleReferenceIdeal [hMixSampleReferenceIdeal : Cert.MixSampleReferenceIdeal.Facts] : Prop :=
  ∀ (m : (ℓ : Loc Cert.MixSampleReferenceIdeal.nD Cert.MixSampleReferenceIdeal.τ Cert.MixSampleReferenceIdeal.sig) → Buf (Elt Ideal) ℓ) (g : Dev Cert.MixSampleReferenceIdeal.nD → PrngReg), Pre_MixSampleReferenceIdeal m →
    θ_run (Cert.MixSampleReferenceIdeal.defs (F := Ideal)) (onTc (τ := Cert.MixSampleReferenceIdeal.τ) (Cert.MixSampleReferenceIdeal.main (F := Ideal))) ⟨m, fun _ => 0, g⟩ (fun r => (∀ c : Dev Cert.MixSampleReferenceIdeal.nD,
      r.2.mem ((c.tc : Thread Cert.MixSampleReferenceIdeal.nD Cert.MixSampleReferenceIdeal.τ).loc Cert.MixSampleReferenceIdeal.main_arg0) = m ((c.tc : Thread Cert.MixSampleReferenceIdeal.nD Cert.MixSampleReferenceIdeal.τ).loc Cert.MixSampleReferenceIdeal.main_arg0)
      ∧ r.2.mem ((c.tc : Thread Cert.MixSampleReferenceIdeal.nD Cert.MixSampleReferenceIdeal.τ).loc Cert.MixSampleReferenceIdeal.main_arg1) = m ((c.tc : Thread Cert.MixSampleReferenceIdeal.nD Cert.MixSampleReferenceIdeal.τ).loc Cert.MixSampleReferenceIdeal.main_arg1)
      ∧ r.2.mem ((c.tc : Thread Cert.MixSampleReferenceIdeal.nD Cert.MixSampleReferenceIdeal.τ).loc Cert.MixSampleReferenceIdeal.main_arg2) = m ((c.tc : Thread Cert.MixSampleReferenceIdeal.nD Cert.MixSampleReferenceIdeal.τ).loc Cert.MixSampleReferenceIdeal.main_arg2)
      ∧ r.2.mem ((c.tc : Thread Cert.MixSampleReferenceIdeal.nD Cert.MixSampleReferenceIdeal.τ).loc Cert.MixSampleReferenceIdeal.main_arg3) = m ((c.tc : Thread Cert.MixSampleReferenceIdeal.nD Cert.MixSampleReferenceIdeal.τ).loc Cert.MixSampleReferenceIdeal.main_arg3)
      ∧ r.2.mem ((c.tc : Thread Cert.MixSampleReferenceIdeal.nD Cert.MixSampleReferenceIdeal.τ).loc Cert.MixSampleReferenceIdeal.main_arg4) = m ((c.tc : Thread Cert.MixSampleReferenceIdeal.nD Cert.MixSampleReferenceIdeal.τ).loc Cert.MixSampleReferenceIdeal.main_arg4)
      ∧ r.2.mem ((c.tc : Thread Cert.MixSampleReferenceIdeal.nD Cert.MixSampleReferenceIdeal.τ).loc Cert.MixSampleReferenceIdeal.main_arg5) = m ((c.tc : Thread Cert.MixSampleReferenceIdeal.nD Cert.MixSampleReferenceIdeal.τ).loc Cert.MixSampleReferenceIdeal.main_arg5)
      ∧ r.2.mem ((c.tc : Thread Cert.MixSampleReferenceIdeal.nD Cert.MixSampleReferenceIdeal.τ).loc Cert.MixSampleReferenceIdeal.main_arg6) = m ((c.tc : Thread Cert.MixSampleReferenceIdeal.nD Cert.MixSampleReferenceIdeal.τ).loc Cert.MixSampleReferenceIdeal.main_arg6)
      ∧ r.2.mem ((c.tc : Thread Cert.MixSampleReferenceIdeal.nD Cert.MixSampleReferenceIdeal.τ).loc Cert.MixSampleReferenceIdeal.main_arg7) = m ((c.tc : Thread Cert.MixSampleReferenceIdeal.nD Cert.MixSampleReferenceIdeal.τ).loc Cert.MixSampleReferenceIdeal.main_arg7)
      ∧ r.2.mem ((c.tc : Thread Cert.MixSampleReferenceIdeal.nD Cert.MixSampleReferenceIdeal.τ).loc Cert.MixSampleReferenceIdeal.main_arg8) = m ((c.tc : Thread Cert.MixSampleReferenceIdeal.nD Cert.MixSampleReferenceIdeal.τ).loc Cert.MixSampleReferenceIdeal.main_arg8))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2)
      ∧ r.2.mem ((c.tc : Thread Cert.InProjSample.nD Cert.InProjSample.τ).loc Cert.InProjSample.main_arg3) = m ((c.tc : Thread Cert.InProjSample.nD Cert.InProjSample.τ).loc Cert.InProjSample.main_arg3)
      ∧ r.2.mem ((c.tc : Thread Cert.InProjSample.nD Cert.InProjSample.τ).loc Cert.InProjSample.main_arg4) = m ((c.tc : Thread Cert.InProjSample.nD Cert.InProjSample.τ).loc Cert.InProjSample.main_arg4)
      ∧ r.2.mem ((c.tc : Thread Cert.InProjSample.nD Cert.InProjSample.τ).loc Cert.InProjSample.main_arg5) = m ((c.tc : Thread Cert.InProjSample.nD Cert.InProjSample.τ).loc Cert.InProjSample.main_arg5)
      ∧ r.2.mem ((c.tc : Thread Cert.InProjSample.nD Cert.InProjSample.τ).loc Cert.InProjSample.main_arg6) = m ((c.tc : Thread Cert.InProjSample.nD Cert.InProjSample.τ).loc Cert.InProjSample.main_arg6)
      ∧ r.2.mem ((c.tc : Thread Cert.InProjSample.nD Cert.InProjSample.τ).loc Cert.InProjSample.main_arg7) = m ((c.tc : Thread Cert.InProjSample.nD Cert.InProjSample.τ).loc Cert.InProjSample.main_arg7))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
      ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
      ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
      ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5)
      ∧ r.2.mem ((c.tc : Thread Cert.InProjSampleIdeal.nD Cert.InProjSampleIdeal.τ).loc Cert.InProjSampleIdeal.main_arg6) = m ((c.tc : Thread Cert.InProjSampleIdeal.nD Cert.InProjSampleIdeal.τ).loc Cert.InProjSampleIdeal.main_arg6)
      ∧ r.2.mem ((c.tc : Thread Cert.InProjSampleIdeal.nD Cert.InProjSampleIdeal.τ).loc Cert.InProjSampleIdeal.main_arg7) = m ((c.tc : Thread Cert.InProjSampleIdeal.nD Cert.InProjSampleIdeal.τ).loc Cert.InProjSampleIdeal.main_arg7))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1)
      ∧ r.2.mem ((c.tc : Thread Cert.InProjSampleReferenceIdeal.nD Cert.InProjSampleReferenceIdeal.τ).loc Cert.InProjSampleReferenceIdeal.main_arg2) = m ((c.tc : Thread Cert.InProjSampleReferenceIdeal.nD Cert.InProjSampleReferenceIdeal.τ).loc Cert.InProjSampleReferenceIdeal.main_arg2)
      ∧ r.2.mem ((c.tc : Thread Cert.InProjSampleReferenceIdeal.nD Cert.InProjSampleReferenceIdeal.τ).loc Cert.InProjSampleReferenceIdeal.main_arg3) = m ((c.tc : Thread Cert.InProjSampleReferenceIdeal.nD Cert.InProjSampleReferenceIdeal.τ).loc Cert.InProjSampleReferenceIdeal.main_arg3)
      ∧ r.2.mem ((c.tc : Thread Cert.InProjSampleReferenceIdeal.nD Cert.InProjSampleReferenceIdeal.τ).loc Cert.InProjSampleReferenceIdeal.main_arg4) = m ((c.tc : Thread Cert.InProjSampleReferenceIdeal.nD Cert.InProjSampleReferenceIdeal.τ).loc Cert.InProjSampleReferenceIdeal.main_arg4)
      ∧ r.2.mem ((c.tc : Thread Cert.InProjSampleReferenceIdeal.nD Cert.InProjSampleReferenceIdeal.τ).loc Cert.InProjSampleReferenceIdeal.main_arg5) = m ((c.tc : Thread Cert.InProjSampleReferenceIdeal.nD Cert.InProjSampleReferenceIdeal.τ).loc Cert.InProjSampleReferenceIdeal.main_arg5)
      ∧ r.2.mem ((c.tc : Thread Cert.InProjSampleReferenceIdeal.nD Cert.InProjSampleReferenceIdeal.τ).loc Cert.InProjSampleReferenceIdeal.main_arg6) = m ((c.tc : Thread Cert.InProjSampleReferenceIdeal.nD Cert.InProjSampleReferenceIdeal.τ).loc Cert.InProjSampleReferenceIdeal.main_arg6)
      ∧ r.2.mem ((c.tc : Thread Cert.InProjSampleReferenceIdeal.nD Cert.InProjSampleReferenceIdeal.τ).loc Cert.InProjSampleReferenceIdeal.main_arg7) = m ((c.tc : Thread Cert.InProjSampleReferenceIdeal.nD Cert.InProjSampleReferenceIdeal.τ).loc Cert.InProjSampleReferenceIdeal.main_arg7))
      ∧ r.2.sem = fun _ => 0)

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)) (v5 : (c : Dev Cert.MixIdeal.nD) → Buf (Elt Ideal) ((c.tc : Thread Cert.MixIdeal.nD Cert.MixIdeal.τ).loc Cert.MixIdeal.main_v0_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_v0_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v55) = v0 c
          ∧ r.2.mem ((c.tc : Thread Cert.MixReferenceIdeal.nD Cert.MixReferenceIdeal.τ).loc Cert.MixReferenceIdeal.main_v68) = v1 c
          ∧ r.2.mem ((c.tc : Thread Cert.MixReferenceIdeal.nD Cert.MixReferenceIdeal.τ).loc Cert.MixReferenceIdeal.main_v30) = v2 c
          ∧ r.2.mem ((c.tc : Thread Cert.MixReferenceIdeal.nD Cert.MixReferenceIdeal.τ).loc Cert.MixReferenceIdeal.main_v69) = v3 c
          ∧ r.2.mem ((c.tc : Thread Cert.MixReferenceIdeal.nD Cert.MixReferenceIdeal.τ).loc Cert.MixReferenceIdeal.main_v70) = v4 c
          ∧ r.2.mem ((c.tc : Thread Cert.MixReferenceIdeal.nD Cert.MixReferenceIdeal.τ).loc Cert.MixReferenceIdeal.main_v71) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v16) = v0 c
          ∧ r.2.mem ((c.tc : Thread Cert.InProjReferenceIdeal.nD Cert.InProjReferenceIdeal.τ).loc Cert.InProjReferenceIdeal.main_v17) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Slide_SlideIdeal : Prop :=
  True

def algebraic_SlideIdeal_SlideReferenceIdeal [hSlideIdeal : Cert.SlideIdeal.Facts] [hSlideReferenceIdeal : Cert.SlideReferenceIdeal.Facts] : Prop :=
  ∀ (m : (ℓ : Loc Cert.SlideIdeal.nD Cert.SlideIdeal.τ Cert.SlideIdeal.sig) → Buf (Elt Ideal) ℓ) (g : Dev Cert.SlideIdeal.nD → PrngReg)
    (m' : (ℓ : Loc Cert.SlideReferenceIdeal.nD Cert.SlideReferenceIdeal.τ Cert.SlideReferenceIdeal.sig) → Buf (Elt Ideal) ℓ) (g' : Dev Cert.SlideReferenceIdeal.nD → PrngReg), Pre_SlideIdeal m →
    (∀ c : Dev Cert.SlideIdeal.nD,
      m' ((c.tc : Thread Cert.SlideReferenceIdeal.nD Cert.SlideReferenceIdeal.τ).loc Cert.SlideReferenceIdeal.main_arg0) = m ((c.tc : Thread Cert.SlideIdeal.nD Cert.SlideIdeal.τ).loc Cert.SlideIdeal.main_arg0)
      ∧ m' ((c.tc : Thread Cert.SlideReferenceIdeal.nD Cert.SlideReferenceIdeal.τ).loc Cert.SlideReferenceIdeal.main_arg1) = m ((c.tc : Thread Cert.SlideIdeal.nD Cert.SlideIdeal.τ).loc Cert.SlideIdeal.main_arg1)
      ∧ m' ((c.tc : Thread Cert.SlideReferenceIdeal.nD Cert.SlideReferenceIdeal.τ).loc Cert.SlideReferenceIdeal.main_arg2) = m ((c.tc : Thread Cert.SlideIdeal.nD Cert.SlideIdeal.τ).loc Cert.SlideIdeal.main_arg2)
      ∧ m' ((c.tc : Thread Cert.SlideReferenceIdeal.nD Cert.SlideReferenceIdeal.τ).loc Cert.SlideReferenceIdeal.main_arg3) = m ((c.tc : Thread Cert.SlideIdeal.nD Cert.SlideIdeal.τ).loc Cert.SlideIdeal.main_arg3)
      ∧ m' ((c.tc : Thread Cert.SlideReferenceIdeal.nD Cert.SlideReferenceIdeal.τ).loc Cert.SlideReferenceIdeal.main_arg4) = m ((c.tc : Thread Cert.SlideIdeal.nD Cert.SlideIdeal.τ).loc Cert.SlideIdeal.main_arg4)) →
    ∃ (v0 : (c : Dev Cert.SlideIdeal.nD) → Buf (Elt Ideal) ((c.tc : Thread Cert.SlideIdeal.nD Cert.SlideIdeal.τ).loc Cert.SlideIdeal.main_v4_1)) (v1 : (c : Dev Cert.SlideIdeal.nD) → Buf (Elt Ideal) ((c.tc : Thread Cert.SlideIdeal.nD Cert.SlideIdeal.τ).loc Cert.SlideIdeal.main_v4_2)),
      θ_run (Cert.SlideIdeal.defs (F := Ideal)) (onTc (τ := Cert.SlideIdeal.τ) (Cert.SlideIdeal.main (F := Ideal))) ⟨m, fun _ => 0, g⟩ (fun r => ∀ c : Dev Cert.SlideIdeal.nD,
          r.2.mem ((c.tc : Thread Cert.SlideIdeal.nD Cert.SlideIdeal.τ).loc Cert.SlideIdeal.main_v4_1) = v0 c
          ∧ r.2.mem ((c.tc : Thread Cert.SlideIdeal.nD Cert.SlideIdeal.τ).loc Cert.SlideIdeal.main_v4_2) = v1 c
          ∧ r.2.mem ((c.tc : Thread Cert.SlideIdeal.nD Cert.SlideIdeal.τ).loc Cert.SlideIdeal.main_arg0) = m ((c.tc : Thread Cert.SlideIdeal.nD Cert.SlideIdeal.τ).loc Cert.SlideIdeal.main_arg0)
          ∧ r.2.mem ((c.tc : Thread Cert.SlideIdeal.nD Cert.SlideIdeal.τ).loc Cert.SlideIdeal.main_arg1) = m ((c.tc : Thread Cert.SlideIdeal.nD Cert.SlideIdeal.τ).loc Cert.SlideIdeal.main_arg1)
          ∧ r.2.mem ((c.tc : Thread Cert.SlideIdeal.nD Cert.SlideIdeal.τ).loc Cert.SlideIdeal.main_arg2) = m ((c.tc : Thread Cert.SlideIdeal.nD Cert.SlideIdeal.τ).loc Cert.SlideIdeal.main_arg2)
          ∧ r.2.mem ((c.tc : Thread Cert.SlideIdeal.nD Cert.SlideIdeal.τ).loc Cert.SlideIdeal.main_arg3) = m ((c.tc : Thread Cert.SlideIdeal.nD Cert.SlideIdeal.τ).loc Cert.SlideIdeal.main_arg3)
          ∧ r.2.mem ((c.tc : Thread Cert.SlideIdeal.nD Cert.SlideIdeal.τ).loc Cert.SlideIdeal.main_arg4) = m ((c.tc : Thread Cert.SlideIdeal.nD Cert.SlideIdeal.τ).loc Cert.SlideIdeal.main_arg4))
      ∧ θ_run (Cert.SlideReferenceIdeal.defs (F := Ideal)) (onTc (τ := Cert.SlideReferenceIdeal.τ) (Cert.SlideReferenceIdeal.main (F := Ideal))) ⟨m', fun _ => 0, g'⟩ (fun r => ∀ c : Dev Cert.SlideReferenceIdeal.nD,
          r.2.mem ((c.tc : Thread Cert.SlideReferenceIdeal.nD Cert.SlideReferenceIdeal.τ).loc Cert.SlideReferenceIdeal.main_v9) = v0 c
          ∧ r.2.mem ((c.tc : Thread Cert.SlideReferenceIdeal.nD Cert.SlideReferenceIdeal.τ).loc Cert.SlideReferenceIdeal.main_v12) = v1 c
          ∧ r.2.mem ((c.tc : Thread Cert.SlideReferenceIdeal.nD Cert.SlideReferenceIdeal.τ).loc Cert.SlideReferenceIdeal.main_arg0) = m' ((c.tc : Thread Cert.SlideReferenceIdeal.nD Cert.SlideReferenceIdeal.τ).loc Cert.SlideReferenceIdeal.main_arg0)
          ∧ r.2.mem ((c.tc : Thread Cert.SlideReferenceIdeal.nD Cert.SlideReferenceIdeal.τ).loc Cert.SlideReferenceIdeal.main_arg1) = m' ((c.tc : Thread Cert.SlideReferenceIdeal.nD Cert.SlideReferenceIdeal.τ).loc Cert.SlideReferenceIdeal.main_arg1)
          ∧ r.2.mem ((c.tc : Thread Cert.SlideReferenceIdeal.nD Cert.SlideReferenceIdeal.τ).loc Cert.SlideReferenceIdeal.main_arg2) = m' ((c.tc : Thread Cert.SlideReferenceIdeal.nD Cert.SlideReferenceIdeal.τ).loc Cert.SlideReferenceIdeal.main_arg2)
          ∧ r.2.mem ((c.tc : Thread Cert.SlideReferenceIdeal.nD Cert.SlideReferenceIdeal.τ).loc Cert.SlideReferenceIdeal.main_arg3) = m' ((c.tc : Thread Cert.SlideReferenceIdeal.nD Cert.SlideReferenceIdeal.τ).loc Cert.SlideReferenceIdeal.main_arg3)
          ∧ r.2.mem ((c.tc : Thread Cert.SlideReferenceIdeal.nD Cert.SlideReferenceIdeal.τ).loc Cert.SlideReferenceIdeal.main_arg4) = m' ((c.tc : Thread Cert.SlideReferenceIdeal.nD Cert.SlideReferenceIdeal.τ).loc Cert.SlideReferenceIdeal.main_arg4))

def preserves_MixSample_MixSampleIdeal : Prop :=
  True

def algebraic_MixSampleIdeal_MixSampleReferenceIdeal [hMixSampleIdeal : Cert.MixSampleIdeal.Facts] [hMixSampleReferenceIdeal : Cert.MixSampleReferenceIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleReferenceIdeal.nD Cert.MixSampleReferenceIdeal.τ Cert.MixSampleReferenceIdeal.sig) → Buf (Elt Ideal) ℓ) (g' : Dev Cert.MixSampleReferenceIdeal.nD → PrngReg), Pre_MixSampleIdeal m →
    (∀ c : Dev Cert.MixSampleIdeal.nD,
      m' ((c.tc : Thread Cert.MixSampleReferenceIdeal.nD Cert.MixSampleReferenceIdeal.τ).loc Cert.MixSampleReferenceIdeal.main_arg0) = m ((c.tc : Thread Cert.MixSampleIdeal.nD Cert.MixSampleIdeal.τ).loc Cert.MixSampleIdeal.main_arg0)
      ∧ m' ((c.tc : Thread Cert.MixSampleReferenceIdeal.nD Cert.MixSampleReferenceIdeal.τ).loc Cert.MixSampleReferenceIdeal.main_arg1) = m ((c.tc : Thread Cert.MixSampleIdeal.nD Cert.MixSampleIdeal.τ).loc Cert.MixSampleIdeal.main_arg1)
      ∧ m' ((c.tc : Thread Cert.MixSampleReferenceIdeal.nD Cert.MixSampleReferenceIdeal.τ).loc Cert.MixSampleReferenceIdeal.main_arg2) = m ((c.tc : Thread Cert.MixSampleIdeal.nD Cert.MixSampleIdeal.τ).loc Cert.MixSampleIdeal.main_arg2)
      ∧ m' ((c.tc : Thread Cert.MixSampleReferenceIdeal.nD Cert.MixSampleReferenceIdeal.τ).loc Cert.MixSampleReferenceIdeal.main_arg3) = m ((c.tc : Thread Cert.MixSampleIdeal.nD Cert.MixSampleIdeal.τ).loc Cert.MixSampleIdeal.main_arg3)
      ∧ m' ((c.tc : Thread Cert.MixSampleReferenceIdeal.nD Cert.MixSampleReferenceIdeal.τ).loc Cert.MixSampleReferenceIdeal.main_arg4) = m ((c.tc : Thread Cert.MixSampleIdeal.nD Cert.MixSampleIdeal.τ).loc Cert.MixSampleIdeal.main_arg4)
      ∧ m' ((c.tc : Thread Cert.MixSampleReferenceIdeal.nD Cert.MixSampleReferenceIdeal.τ).loc Cert.MixSampleReferenceIdeal.main_arg5) = m ((c.tc : Thread Cert.MixSampleIdeal.nD Cert.MixSampleIdeal.τ).loc Cert.MixSampleIdeal.main_arg5)
      ∧ m' ((c.tc : Thread Cert.MixSampleReferenceIdeal.nD Cert.MixSampleReferenceIdeal.τ).loc Cert.MixSampleReferenceIdeal.main_arg6) = m ((c.tc : Thread Cert.MixSampleIdeal.nD Cert.MixSampleIdeal.τ).loc Cert.MixSampleIdeal.main_arg6)
      ∧ m' ((c.tc : Thread Cert.MixSampleReferenceIdeal.nD Cert.MixSampleReferenceIdeal.τ).loc Cert.MixSampleReferenceIdeal.main_arg7) = m ((c.tc : Thread Cert.MixSampleIdeal.nD Cert.MixSampleIdeal.τ).loc Cert.MixSampleIdeal.main_arg7)
      ∧ m' ((c.tc : Thread Cert.MixSampleReferenceIdeal.nD Cert.MixSampleReferenceIdeal.τ).loc Cert.MixSampleReferenceIdeal.main_arg8) = m ((c.tc : Thread Cert.MixSampleIdeal.nD Cert.MixSampleIdeal.τ).loc Cert.MixSampleIdeal.main_arg8)) →
    ∃ (v0 : (c : Dev Cert.MixSampleIdeal.nD) → Buf (Elt Ideal) ((c.tc : Thread Cert.MixSampleIdeal.nD Cert.MixSampleIdeal.τ).loc Cert.MixSampleIdeal.main_v0_0)) (v1 : (c : Dev Cert.MixSampleIdeal.nD) → Buf (Elt Ideal) ((c.tc : Thread Cert.MixSampleIdeal.nD Cert.MixSampleIdeal.τ).loc Cert.MixSampleIdeal.main_v0_1)) (v2 : (c : Dev Cert.MixSampleIdeal.nD) → Buf (Elt Ideal) ((c.tc : Thread Cert.MixSampleIdeal.nD Cert.MixSampleIdeal.τ).loc Cert.MixSampleIdeal.main_v0_2)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v0_0) = v0 c
          ∧ r.2.mem ((c.tc : Thread Cert.MixSampleIdeal.nD Cert.MixSampleIdeal.τ).loc Cert.MixSampleIdeal.main_v0_1) = v1 c
          ∧ r.2.mem ((c.tc : Thread Cert.MixSampleIdeal.nD Cert.MixSampleIdeal.τ).loc Cert.MixSampleIdeal.main_v0_2) = v2 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8))
      ∧ θ_run (Cert.MixSampleReferenceIdeal.defs (F := Ideal)) (onTc (τ := Cert.MixSampleReferenceIdeal.τ) (Cert.MixSampleReferenceIdeal.main (F := Ideal))) ⟨m', fun _ => 0, g'⟩ (fun r => ∀ c : Dev Cert.MixSampleReferenceIdeal.nD,
          r.2.mem ((c.tc : Thread Cert.MixSampleReferenceIdeal.nD Cert.MixSampleReferenceIdeal.τ).loc Cert.MixSampleReferenceIdeal.main_v54) = v0 c
          ∧ r.2.mem ((c.tc : Thread Cert.MixSampleReferenceIdeal.nD Cert.MixSampleReferenceIdeal.τ).loc Cert.MixSampleReferenceIdeal.main_v67) = v1 c
          ∧ r.2.mem ((c.tc : Thread Cert.MixSampleReferenceIdeal.nD Cert.MixSampleReferenceIdeal.τ).loc Cert.MixSampleReferenceIdeal.main_v29) = v2 c
          ∧ r.2.mem ((c.tc : Thread Cert.MixSampleReferenceIdeal.nD Cert.MixSampleReferenceIdeal.τ).loc Cert.MixSampleReferenceIdeal.main_arg0) = m' ((c.tc : Thread Cert.MixSampleReferenceIdeal.nD Cert.MixSampleReferenceIdeal.τ).loc Cert.MixSampleReferenceIdeal.main_arg0)
          ∧ r.2.mem ((c.tc : Thread Cert.MixSampleReferenceIdeal.nD Cert.MixSampleReferenceIdeal.τ).loc Cert.MixSampleReferenceIdeal.main_arg1) = m' ((c.tc : Thread Cert.MixSampleReferenceIdeal.nD Cert.MixSampleReferenceIdeal.τ).loc Cert.MixSampleReferenceIdeal.main_arg1)
          ∧ r.2.mem ((c.tc : Thread Cert.MixSampleReferenceIdeal.nD Cert.MixSampleReferenceIdeal.τ).loc Cert.MixSampleReferenceIdeal.main_arg2) = m' ((c.tc : Thread Cert.MixSampleReferenceIdeal.nD Cert.MixSampleReferenceIdeal.τ).loc Cert.MixSampleReferenceIdeal.main_arg2)
          ∧ r.2.mem ((c.tc : Thread Cert.MixSampleReferenceIdeal.nD Cert.MixSampleReferenceIdeal.τ).loc Cert.MixSampleReferenceIdeal.main_arg3) = m' ((c.tc : Thread Cert.MixSampleReferenceIdeal.nD Cert.MixSampleReferenceIdeal.τ).loc Cert.MixSampleReferenceIdeal.main_arg3)
          ∧ r.2.mem ((c.tc : Thread Cert.MixSampleReferenceIdeal.nD Cert.MixSampleReferenceIdeal.τ).loc Cert.MixSampleReferenceIdeal.main_arg4) = m' ((c.tc : Thread Cert.MixSampleReferenceIdeal.nD Cert.MixSampleReferenceIdeal.τ).loc Cert.MixSampleReferenceIdeal.main_arg4)
          ∧ r.2.mem ((c.tc : Thread Cert.MixSampleReferenceIdeal.nD Cert.MixSampleReferenceIdeal.τ).loc Cert.MixSampleReferenceIdeal.main_arg5) = m' ((c.tc : Thread Cert.MixSampleReferenceIdeal.nD Cert.MixSampleReferenceIdeal.τ).loc Cert.MixSampleReferenceIdeal.main_arg5)
          ∧ r.2.mem ((c.tc : Thread Cert.MixSampleReferenceIdeal.nD Cert.MixSampleReferenceIdeal.τ).loc Cert.MixSampleReferenceIdeal.main_arg6) = m' ((c.tc : Thread Cert.MixSampleReferenceIdeal.nD Cert.MixSampleReferenceIdeal.τ).loc Cert.MixSampleReferenceIdeal.main_arg6)
          ∧ r.2.mem ((c.tc : Thread Cert.MixSampleReferenceIdeal.nD Cert.MixSampleReferenceIdeal.τ).loc Cert.MixSampleReferenceIdeal.main_arg7) = m' ((c.tc : Thread Cert.MixSampleReferenceIdeal.nD Cert.MixSampleReferenceIdeal.τ).loc Cert.MixSampleReferenceIdeal.main_arg7)
          ∧ r.2.mem ((c.tc : Thread Cert.MixSampleReferenceIdeal.nD Cert.MixSampleReferenceIdeal.τ).loc Cert.MixSampleReferenceIdeal.main_arg8) = m' ((c.tc : Thread Cert.MixSampleReferenceIdeal.nD Cert.MixSampleReferenceIdeal.τ).loc Cert.MixSampleReferenceIdeal.main_arg8))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)
      ∧ m' ((c.tc : Thread Cert.InProjSampleReferenceIdeal.nD Cert.InProjSampleReferenceIdeal.τ).loc Cert.InProjSampleReferenceIdeal.main_arg2) = m ((c.tc : Thread Cert.InProjSampleIdeal.nD Cert.InProjSampleIdeal.τ).loc Cert.InProjSampleIdeal.main_arg2)
      ∧ m' ((c.tc : Thread Cert.InProjSampleReferenceIdeal.nD Cert.InProjSampleReferenceIdeal.τ).loc Cert.InProjSampleReferenceIdeal.main_arg3) = m ((c.tc : Thread Cert.InProjSampleIdeal.nD Cert.InProjSampleIdeal.τ).loc Cert.InProjSampleIdeal.main_arg3)
      ∧ m' ((c.tc : Thread Cert.InProjSampleReferenceIdeal.nD Cert.InProjSampleReferenceIdeal.τ).loc Cert.InProjSampleReferenceIdeal.main_arg4) = m ((c.tc : Thread Cert.InProjSampleIdeal.nD Cert.InProjSampleIdeal.τ).loc Cert.InProjSampleIdeal.main_arg4)
      ∧ m' ((c.tc : Thread Cert.InProjSampleReferenceIdeal.nD Cert.InProjSampleReferenceIdeal.τ).loc Cert.InProjSampleReferenceIdeal.main_arg5) = m ((c.tc : Thread Cert.InProjSampleIdeal.nD Cert.InProjSampleIdeal.τ).loc Cert.InProjSampleIdeal.main_arg5)
      ∧ m' ((c.tc : Thread Cert.InProjSampleReferenceIdeal.nD Cert.InProjSampleReferenceIdeal.τ).loc Cert.InProjSampleReferenceIdeal.main_arg6) = m ((c.tc : Thread Cert.InProjSampleIdeal.nD Cert.InProjSampleIdeal.τ).loc Cert.InProjSampleIdeal.main_arg6)
      ∧ m' ((c.tc : Thread Cert.InProjSampleReferenceIdeal.nD Cert.InProjSampleReferenceIdeal.τ).loc Cert.InProjSampleReferenceIdeal.main_arg7) = m ((c.tc : Thread Cert.InProjSampleIdeal.nD Cert.InProjSampleIdeal.τ).loc Cert.InProjSampleIdeal.main_arg7)) →
    ∃ (v0 : (c : Dev Cert.InProjSampleIdeal.nD) → Buf (Elt Ideal) ((c.tc : Thread Cert.InProjSampleIdeal.nD Cert.InProjSampleIdeal.τ).loc Cert.InProjSampleIdeal.main_v0_0)) (v1 : (c : Dev Cert.InProjSampleIdeal.nD) → Buf (Elt Ideal) ((c.tc : Thread Cert.InProjSampleIdeal.nD Cert.InProjSampleIdeal.τ).loc Cert.InProjSampleIdeal.main_v0_2)) (v2 : (c : Dev Cert.InProjSampleIdeal.nD) → Buf (Elt Ideal) ((c.tc : Thread Cert.InProjSampleIdeal.nD Cert.InProjSampleIdeal.τ).loc Cert.InProjSampleIdeal.main_v0_3)) (v3 : (c : Dev Cert.InProjSampleIdeal.nD) → Buf (Elt Ideal) ((c.tc : Thread Cert.InProjSampleIdeal.nD Cert.InProjSampleIdeal.τ).loc Cert.InProjSampleIdeal.main_v0_4)) (v4 : (c : Dev Cert.InProjSampleIdeal.nD) → Buf (Elt Ideal) ((c.tc : Thread Cert.InProjSampleIdeal.nD Cert.InProjSampleIdeal.τ).loc Cert.InProjSampleIdeal.main_v0_5)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v0_0) = v0 c
          ∧ r.2.mem ((c.tc : Thread Cert.InProjSampleIdeal.nD Cert.InProjSampleIdeal.τ).loc Cert.InProjSampleIdeal.main_v0_2) = v1 c
          ∧ r.2.mem ((c.tc : Thread Cert.InProjSampleIdeal.nD Cert.InProjSampleIdeal.τ).loc Cert.InProjSampleIdeal.main_v0_3) = v2 c
          ∧ r.2.mem ((c.tc : Thread Cert.InProjSampleIdeal.nD Cert.InProjSampleIdeal.τ).loc Cert.InProjSampleIdeal.main_v0_4) = v3 c
          ∧ r.2.mem ((c.tc : Thread Cert.InProjSampleIdeal.nD Cert.InProjSampleIdeal.τ).loc Cert.InProjSampleIdeal.main_v0_5) = v4 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2)
          ∧ r.2.mem ((c.tc : Thread Cert.InProjSampleIdeal.nD Cert.InProjSampleIdeal.τ).loc Cert.InProjSampleIdeal.main_arg3) = m ((c.tc : Thread Cert.InProjSampleIdeal.nD Cert.InProjSampleIdeal.τ).loc Cert.InProjSampleIdeal.main_arg3)
          ∧ r.2.mem ((c.tc : Thread Cert.InProjSampleIdeal.nD Cert.InProjSampleIdeal.τ).loc Cert.InProjSampleIdeal.main_arg4) = m ((c.tc : Thread Cert.InProjSampleIdeal.nD Cert.InProjSampleIdeal.τ).loc Cert.InProjSampleIdeal.main_arg4)
          ∧ r.2.mem ((c.tc : Thread Cert.InProjSampleIdeal.nD Cert.InProjSampleIdeal.τ).loc Cert.InProjSampleIdeal.main_arg5) = m ((c.tc : Thread Cert.InProjSampleIdeal.nD Cert.InProjSampleIdeal.τ).loc Cert.InProjSampleIdeal.main_arg5)
          ∧ r.2.mem ((c.tc : Thread Cert.InProjSampleIdeal.nD Cert.InProjSampleIdeal.τ).loc Cert.InProjSampleIdeal.main_arg6) = m ((c.tc : Thread Cert.InProjSampleIdeal.nD Cert.InProjSampleIdeal.τ).loc Cert.InProjSampleIdeal.main_arg6)
          ∧ r.2.mem ((c.tc : Thread Cert.InProjSampleIdeal.nD Cert.InProjSampleIdeal.τ).loc Cert.InProjSampleIdeal.main_arg7) = m ((c.tc : Thread Cert.InProjSampleIdeal.nD Cert.InProjSampleIdeal.τ).loc Cert.InProjSampleIdeal.main_arg7))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v27) = v0 c
          ∧ r.2.mem ((c.tc : Thread Cert.InProjSampleReferenceIdeal.nD Cert.InProjSampleReferenceIdeal.τ).loc Cert.InProjSampleReferenceIdeal.main_v28) = v1 c
          ∧ r.2.mem ((c.tc : Thread Cert.InProjSampleReferenceIdeal.nD Cert.InProjSampleReferenceIdeal.τ).loc Cert.InProjSampleReferenceIdeal.main_v29) = v2 c
          ∧ r.2.mem ((c.tc : Thread Cert.InProjSampleReferenceIdeal.nD Cert.InProjSampleReferenceIdeal.τ).loc Cert.InProjSampleReferenceIdeal.main_v23) = v3 c
          ∧ r.2.mem ((c.tc : Thread Cert.InProjSampleReferenceIdeal.nD Cert.InProjSampleReferenceIdeal.τ).loc Cert.InProjSampleReferenceIdeal.main_v26) = v4 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1)
          ∧ r.2.mem ((c.tc : Thread Cert.InProjSampleReferenceIdeal.nD Cert.InProjSampleReferenceIdeal.τ).loc Cert.InProjSampleReferenceIdeal.main_arg2) = m' ((c.tc : Thread Cert.InProjSampleReferenceIdeal.nD Cert.InProjSampleReferenceIdeal.τ).loc Cert.InProjSampleReferenceIdeal.main_arg2)
          ∧ r.2.mem ((c.tc : Thread Cert.InProjSampleReferenceIdeal.nD Cert.InProjSampleReferenceIdeal.τ).loc Cert.InProjSampleReferenceIdeal.main_arg3) = m' ((c.tc : Thread Cert.InProjSampleReferenceIdeal.nD Cert.InProjSampleReferenceIdeal.τ).loc Cert.InProjSampleReferenceIdeal.main_arg3)
          ∧ r.2.mem ((c.tc : Thread Cert.InProjSampleReferenceIdeal.nD Cert.InProjSampleReferenceIdeal.τ).loc Cert.InProjSampleReferenceIdeal.main_arg4) = m' ((c.tc : Thread Cert.InProjSampleReferenceIdeal.nD Cert.InProjSampleReferenceIdeal.τ).loc Cert.InProjSampleReferenceIdeal.main_arg4)
          ∧ r.2.mem ((c.tc : Thread Cert.InProjSampleReferenceIdeal.nD Cert.InProjSampleReferenceIdeal.τ).loc Cert.InProjSampleReferenceIdeal.main_arg5) = m' ((c.tc : Thread Cert.InProjSampleReferenceIdeal.nD Cert.InProjSampleReferenceIdeal.τ).loc Cert.InProjSampleReferenceIdeal.main_arg5)
          ∧ r.2.mem ((c.tc : Thread Cert.InProjSampleReferenceIdeal.nD Cert.InProjSampleReferenceIdeal.τ).loc Cert.InProjSampleReferenceIdeal.main_arg6) = m' ((c.tc : Thread Cert.InProjSampleReferenceIdeal.nD Cert.InProjSampleReferenceIdeal.τ).loc Cert.InProjSampleReferenceIdeal.main_arg6)
          ∧ r.2.mem ((c.tc : Thread Cert.InProjSampleReferenceIdeal.nD Cert.InProjSampleReferenceIdeal.τ).loc Cert.InProjSampleReferenceIdeal.main_arg7) = m' ((c.tc : Thread Cert.InProjSampleReferenceIdeal.nD Cert.InProjSampleReferenceIdeal.τ).loc Cert.InProjSampleReferenceIdeal.main_arg7))

def Claim : Prop :=
  ∃ (hMix : Cert.Mix.Facts) (hMixIdeal : Cert.MixIdeal.Facts) (hMixReferenceIdeal : Cert.MixReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hSlide : Cert.Slide.Facts) (hSlideIdeal : Cert.SlideIdeal.Facts) (hSlideReferenceIdeal : Cert.SlideReferenceIdeal.Facts) (hMixSample : Cert.MixSample.Facts) (hMixSampleIdeal : Cert.MixSampleIdeal.Facts) (hMixSampleReferenceIdeal : Cert.MixSampleReferenceIdeal.Facts) (hInProjSample : Cert.InProjSample.Facts) (hInProjSampleIdeal : Cert.InProjSampleIdeal.Facts) (hInProjSampleReferenceIdeal : Cert.InProjSampleReferenceIdeal.Facts),
    quiescent_Mix (hMix := hMix)
    ∧ quiescent_MixIdeal (hMixIdeal := hMixIdeal)
    ∧ quiescent_MixReferenceIdeal (hMixReferenceIdeal := hMixReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Slide (hSlide := hSlide)
    ∧ quiescent_SlideIdeal (hSlideIdeal := hSlideIdeal)
    ∧ quiescent_SlideReferenceIdeal (hSlideReferenceIdeal := hSlideReferenceIdeal)
    ∧ quiescent_MixSample (hMixSample := hMixSample)
    ∧ quiescent_MixSampleIdeal (hMixSampleIdeal := hMixSampleIdeal)
    ∧ quiescent_MixSampleReferenceIdeal (hMixSampleReferenceIdeal := hMixSampleReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ preserves_Mix_MixIdeal
    ∧ algebraic_MixIdeal_MixReferenceIdeal (hMixIdeal := hMixIdeal) (hMixReferenceIdeal := hMixReferenceIdeal)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_Slide_SlideIdeal
    ∧ algebraic_SlideIdeal_SlideReferenceIdeal (hSlideIdeal := hSlideIdeal) (hSlideReferenceIdeal := hSlideReferenceIdeal)
    ∧ preserves_MixSample_MixSampleIdeal
    ∧ algebraic_MixSampleIdeal_MixSampleReferenceIdeal (hMixSampleIdeal := hMixSampleIdeal) (hMixSampleReferenceIdeal := hMixSampleReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
-- ==== Mix.lean ====
abbrev S8192x8704 : Shape := ⟨2, ![8192, 8704]⟩
abbrev S8192x1024 : Shape := ⟨2, ![8192, 1024]⟩
abbrev S8192x2048 : Shape := ⟨2, ![8192, 2048]⟩
abbrev S3x1024 : Shape := ⟨2, ![3, 1024]⟩
abbrev S1x2048 : Shape := ⟨2, ![1, 2048]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S4x2x1024 : Shape := ⟨3, ![4, 2, 1024]⟩
abbrev S256x1024 : Shape := ⟨2, ![256, 1024]⟩
abbrev S256x2048 : Shape := ⟨2, ![256, 2048]⟩
abbrev S64x5632 : Shape := ⟨2, ![64, 5632]⟩
abbrev S176x2048 : Shape := ⟨2, ![176, 2048]⟩
abbrev S1x2x1024 : Shape := ⟨3, ![1, 2, 1024]⟩
abbrev S8x1024 : Shape := ⟨2, ![8, 1024]⟩
abbrev S2x1024 : Shape := ⟨2, ![2, 1024]⟩
abbrev S264x1024 : Shape := ⟨2, ![264, 1024]⟩
abbrev S1x1024 : Shape := ⟨2, ![1, 1024]⟩
abbrev S256 : Shape := ⟨1, ![256]⟩
abbrev S256x1 : Shape := ⟨2, ![256, 1]⟩

abbrev nBuf : Space → Nat
  | .hbm => 17
  | .vmem => 38
  | .smem => 0
  | _ => 0

abbrev bufTy : (tb : Table) → Fin (tcTables nBuf tb) → BufTy
  | .hbm, ⟨0, _⟩ => ⟨S8192x8704, .bf16⟩
  | .hbm, ⟨1, _⟩ => ⟨S8192x1024, .bf16⟩
  | .hbm, ⟨2, _⟩ => ⟨S8192x2048, .f32⟩
  | .hbm, ⟨3, _⟩ => ⟨S3x1024, .f32⟩
  | .hbm, ⟨4, _⟩ => ⟨S1x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S8192x2048, .f32⟩
  | .hbm, ⟨12, _⟩ => ⟨S8192x2048, .bf16⟩
  | .hbm, ⟨13, _⟩ => ⟨S4x2x1024, .f32⟩
  | .hbm, ⟨14, _⟩ => ⟨S2048x5632, .bf16⟩
  | .hbm, ⟨15, _⟩ => ⟨S2048x5632, .bf16⟩
  | .hbm, ⟨16, _⟩ => ⟨S5632x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x1024, .f32⟩
  | .local _ .vmem, ⟨7, _⟩ => ⟨S256x1024, .bf16⟩
  | .local _ .vmem, ⟨8, _⟩ => ⟨S256x1024, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S1024x2048, .bf16⟩
  | .local _ .vmem, ⟨17, _⟩ => ⟨S1024x2048, .bf16⟩
  | .local _ .vmem, ⟨18, _⟩ => ⟨S2048x2048, .bf16⟩
  | .local _ .vmem, ⟨19, _⟩ => ⟨S64x5632, .f32⟩
  | .local _ .vmem, ⟨20, _⟩ => ⟨S64x5632, .f32⟩
  | .local _ .vmem, ⟨21, _⟩ => ⟨S64x5632, .f32⟩
  | .local _ .vmem, ⟨22, _⟩ => ⟨S64x5632, .f32⟩
  | .local _ .vmem, ⟨23, _⟩ => ⟨S176x2048, .f32⟩
  | .local _ .vmem, ⟨24, _⟩ => ⟨S176x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .bf16⟩
  | .local _ .vmem, ⟨28, _⟩ => ⟨S256x2048, .bf16⟩
  | .local _ .vmem, ⟨29, _⟩ => ⟨S1x2x1024, .f32⟩
  | .local _ .vmem, ⟨30, _⟩ => ⟨S1x2x1024, .f32⟩
  | .local _ .vmem, ⟨31, _⟩ => ⟨S64x5632, .bf16⟩
  | .local _ .vmem, ⟨32, _⟩ => ⟨S64x5632, .bf16⟩
  | .local _ .vmem, ⟨33, _⟩ => ⟨S64x5632, .bf16⟩
  | .local _ .vmem, ⟨34, _⟩ => ⟨S64x5632, .bf16⟩
  | .local _ .vmem, ⟨35, _⟩ => ⟨S176x2048, .bf16⟩
  | .local _ .vmem, ⟨36, _⟩ => ⟨S176x2048, .bf16⟩
  | .local _ .vmem, ⟨37, _⟩ => ⟨S8x1024, .f32⟩
  | _, _ => ⟨S8192x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_18 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x2x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixReferenceIdeal.lean ====
abbrev S8192x8704 : Shape := ⟨2, ![8192, 8704]⟩
abbrev S8192x1024 : Shape := ⟨2, ![8192, 1024]⟩
abbrev S8192x2048 : Shape := ⟨2, ![8192, 2048]⟩
abbrev S3x1024 : Shape := ⟨2, ![3, 1024]⟩
abbrev S1x2048 : Shape := ⟨2, ![1, 2048]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S4x2048x1024 : Shape := ⟨3, ![4, 2048, 1024]⟩
abbrev S_ : Shape := ⟨0, ![]⟩
abbrev S4x2x1024 : Shape := ⟨3, ![4, 2, 1024]⟩
abbrev S4x2050x1024 : Shape := ⟨3, ![4, 2050, 1024]⟩
abbrev S1x1024 : Shape := ⟨2, ![1, 1024]⟩
abbrev S1024 : Shape := ⟨1, ![1024]⟩
abbrev S1x1x1024 : Shape := ⟨3, ![1, 1, 1024]⟩
abbrev S8192 : Shape := ⟨1, ![8192]⟩
abbrev S8192x1 : Shape := ⟨2, ![8192, 1]⟩

abbrev nBuf : Space → Nat
  | .hbm => 91
  | .vmem => 0
  | .smem => 0
  | _ => 0

abbrev bufTy : (tb : Table) → Fin (tcTables nBuf tb) → BufTy
  | .hbm, ⟨0, _⟩ => ⟨S8192x8704, .bf16⟩
  | .hbm, ⟨1, _⟩ => ⟨S8192x1024, .bf16⟩
  | .hbm, ⟨2, _⟩ => ⟨S8192x2048, .f32⟩
  | .hbm, ⟨3, _⟩ => ⟨S3x1024, .f32⟩
  | .hbm, ⟨4, _⟩ => ⟨S1x2048, .f32⟩
  | .hbm, ⟨5, _⟩ => ⟨S1024x2048, .bf16⟩
  | .hbm, ⟨6, _⟩ => ⟨S1024x2048, .bf16⟩
  | .hbm, ⟨7, _⟩ => ⟨S2048x2048, .bf16⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S8192x8704, .f32⟩
  | .hbm, ⟨12, _⟩ => ⟨S8192x2048, .f32⟩
  | .hbm, ⟨13, _⟩ => ⟨S8192x2048, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x2048x1024, .f32⟩
  | .hbm, ⟨19, _⟩ => ⟨S_, .f32⟩
  | .hbm, ⟨20, _⟩ => ⟨S4x2x1024, .f32⟩
  | .hbm, ⟨21, _⟩ => ⟨S4x2050x1024, .f32⟩
  | .hbm, ⟨22, _⟩ => ⟨S1x1024, .f32⟩
  | .hbm, ⟨23, _⟩ => ⟨S1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S1x1024, .f32⟩
  | .hbm, ⟨29, _⟩ => ⟨S1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S4x2048x1024, .f32⟩
  | .hbm, ⟨35, _⟩ => ⟨S1x1024, .f32⟩
  | .hbm, ⟨36, _⟩ => ⟨S1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2x1024, .f32⟩
  | .hbm, ⟨43, _⟩ => ⟨S8192x1024, .f32⟩
  | .hbm, ⟨44, _⟩ => ⟨S8192x1024, .f32⟩
  | .hbm, ⟨45, _⟩ => ⟨S1024x2048, .f32⟩
  | .hbm, ⟨46, _⟩ => ⟨S8192x2048, .f32⟩
  | .hbm, ⟨47, _⟩ => ⟨S8192x1024, .f32⟩
  | .hbm, ⟨48, _⟩ => ⟨S1024x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S_, .f32⟩
  | .hbm, ⟨65, _⟩ => ⟨S8192x2048, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S2048x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x2048, .f32⟩
  | .hbm, ⟨84, _⟩ => ⟨S8192x2048, .f32⟩
  | .hbm, ⟨85, _⟩ => ⟨S8192x2048, .f32⟩
  | .hbm, ⟨86, _⟩ => ⟨S8192x2048, .f32⟩
  | .hbm, ⟨87, _⟩ => ⟨S8192x2048, .bf16⟩
  | .hbm, ⟨88, _⟩ => ⟨S2048x5632, .bf16⟩
  | .hbm, ⟨89, _⟩ => ⟨S2048x5632, .bf16⟩
  | .hbm, ⟨90, _⟩ => ⟨S5632x2048, .bf16⟩
  | _, _ => ⟨S8192x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_2 : Ref sig .tc := ⟨.hbm, 61, rfl⟩
abbrev main_v47 : Ref sig .tc := ⟨.hbm, 62, rfl⟩
abbrev main_v48 : Ref sig .tc := ⟨.hbm, 63, rfl⟩
abbrev main_cst_3 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_4 : Ref sig .tc := ⟨.hbm, 73, rfl⟩
abbrev main_v57 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c10_i32 : BitVec 32 := 10#32
  let v18 : BitVec 1 := Scalar.cmpi .eq arg1 c10_i32
  let v19 : BitVec 32 := Scalar.extui v18
  let c0_i32_15 : BitVec 32 := 0#32
  let v20 : BitVec 1 := Scalar.cmpi .ne v19 c0_i32_15
  v20

@[reducible] def k0_t1_loop : Scf.Loop 32 :=
  let c0_i32_16 : BitVec 32 := 0#32
  let c4_i32 : BitVec 32 := 4#32
  let v21 : BitVec 32 := Scalar.addi c0_i32_16 c4_i32
  let c1_i32 : BitVec 32 := 1#32
  ⟨c0_i32_16, v21, c1_i32⟩
def k0_mult1 (k0_t1 : Fin k0_t1_loop.trips) : BitVec 32 :=
  let c0_i32_16 : BitVec 32 := 0#32
  let c1_i32 : BitVec 32 := 1#32
  let arg9 : BitVec 32 := Scf.iv c0_i32_16 c1_i32 k0_t1
  let c256_i32 : BitVec 32 := 256#32
  let v22 : BitVec 32 := Scalar.muli arg9 c256_i32
  v22
def k0_off1 (k0_t1 : Fin k0_t1_loop.trips) : Fin 2 → Nat :=
  let c0_i32_16 : BitVec 32 := 0#32
  let c1_i32 : BitVec 32 := 1#32
  let arg9 : BitVec 32 := Scf.iv c0_i32_16 c1_i32 k0_t1
  let c256_i32 : BitVec 32 := 256#32
  let v22 : BitVec 32 := Scalar.muli arg9 c256_i32
  let v23 : BitVec 32 := v22
  let v24 : Index := Scalar.indexCast v23
  let c0_18 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8192x2048 : Shape := ⟨2, ![8192, 2048]⟩
abbrev S1x2048 : Shape := ⟨2, ![1, 2048]⟩
abbrev S2048x5632 : Shape := ⟨2, ![2048, 5632]⟩
abbrev S5632x2048 : Shape := ⟨2, ![5632, 2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S2048x5632, .bf16⟩
  | .hbm, ⟨4, _⟩ => ⟨S2048x5632, .bf16⟩
  | .hbm, ⟨5, _⟩ => ⟨S5632x2048, .bf16⟩
  | .hbm, ⟨6, _⟩ => ⟨S8192x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S_, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== InProj.lean ====
abbrev S8192x2048 : Shape := ⟨2, ![8192, 2048]⟩
abbrev S1x2048 : Shape := ⟨2, ![1, 2048]⟩
abbrev S2048x8704 : Shape := ⟨2, ![2048, 8704]⟩
abbrev S2048x2048 : Shape := ⟨2, ![2048, 2048]⟩
abbrev S8192x8704 : Shape := ⟨2, ![8192, 8704]⟩
abbrev S2048x512 : Shape := ⟨2, ![2048, 512]⟩
abbrev S32x2048 : Shape := ⟨2, ![32, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8704, .f32⟩
  | .hbm, ⟨3, _⟩ => ⟨S2048x2048, .f32⟩
  | .hbm, ⟨4, _⟩ => ⟨S8192x8704, .bf16⟩
  | .hbm, ⟨5, _⟩ => ⟨S2048x2048, .bf16⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S32x2048, .f32⟩
  | .local _ .vmem, ⟨6, _⟩ => ⟨S32x2048, .f32⟩
  | .local _ .vmem, ⟨7, _⟩ => ⟨S2048x512, .bf16⟩
  | .local _ .vmem, ⟨8, _⟩ => ⟨S2048x512, .bf16⟩
  | .local _ .vmem, ⟨9, _⟩ => ⟨S32x2048, .bf16⟩
  | .local _ .vmem, ⟨10, _⟩ => ⟨S32x2048, .bf16⟩
  | .local _ .vmem, ⟨11, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c8_i32 : BitVec 32 := 8#32
  let v12 : BitVec 32 := Scalar.addi c0_i32_10 c8_i32
  let c1_i32 : BitVec 32 := 1#32
  ⟨c0_i32_10, v12, c1_i32⟩
def k0_mult1 (k0_t1 : Fin k0_t1_loop.trips) : BitVec 32 :=
  let c0_i32_10 : BitVec 32 := 0#32
  let c1_i32 : BitVec 32 := 1#32
  let arg9 : BitVec 32 := Scf.iv c0_i32_10 c1_i32 k0_t1
  let c256_i32 : BitVec 32 := 256#32
  let v13 : BitVec 32 := Scalar.muli arg9 c256_i32
  v13
def k0_off1 (k0_t1 : Fin k0_t1_loop.trips) : Fin 2 → Nat :=
  let c0_i32_10 : BitVec 32 := 0#32
  let c1_i32 : BitVec 32 := 1#32
  let arg9 : BitVec 32 := Scf.iv c0_i32_10 c1_i32 k0_t1
  let c256_i32 : BitVec 32 := 256#32
  let v13 : BitVec 32 := Scalar.muli arg9 c256_i32
  let v14 : BitVec 32 := v13
  let v15 : Index := Scalar.indexCast v14
  let c0_12 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi arg1 c9_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjReferenceIdeal.lean ====
abbrev S8192x2048 : Shape := ⟨2, ![8192, 2048]⟩
abbrev S1x2048 : Shape := ⟨2, ![1, 2048]⟩
abbrev S2048x8704 : Shape := ⟨2, ![2048, 8704]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S8192x8704 : Shape := ⟨2, ![8192, 8704]⟩
abbrev S8192x4096 : Shape := ⟨2, ![8192, 4096]⟩
abbrev S8192x4608 : Shape := ⟨2, ![8192, 4608]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8704, .f32⟩
  | .hbm, ⟨3, _⟩ => ⟨S2048x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8704, .f32⟩
  | .hbm, ⟨20, _⟩ => ⟨S8192x4096, .f32⟩
  | .hbm, ⟨21, _⟩ => ⟨S8192x4608, .f32⟩
  | .hbm, ⟨22, _⟩ => ⟨S8192x8704, .f32⟩
  | .hbm, ⟨23, _⟩ => ⟨S8192x8704, .bf16⟩
  | .hbm, ⟨24, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Slide.lean ====
abbrev S1024x8704 : Shape := ⟨2, ![1024, 8704]⟩
abbrev S128x128x4x64 : Shape := ⟨4, ![128, 128, 4, 64]⟩
abbrev S32x16 : Shape := ⟨2, ![32, 16]⟩
abbrev S16 : Shape := ⟨1, ![16]⟩
abbrev S128x4x64x128 : Shape := ⟨4, ![128, 4, 64, 128]⟩
abbrev S128x256x128 : Shape := ⟨3, ![128, 256, 128]⟩
abbrev S1024x1024 : Shape := ⟨2, ![1024, 1024]⟩
abbrev S128x1024 : Shape := ⟨2, ![128, 1024]⟩
abbrev S128x256 : Shape := ⟨2, ![128, 256]⟩
abbrev S16x256x128 : Shape := ⟨3, ![16, 256, 128]⟩
abbrev S128x128 : Shape := ⟨2, ![128, 128]⟩
abbrev S16x128x128 : Shape := ⟨3, ![16, 128, 128]⟩
abbrev S16x128x256 : Shape := ⟨3, ![16, 128, 256]⟩
abbrev S16x128x384 : Shape := ⟨3, ![16, 128, 384]⟩
abbrev S8x128 : Shape := ⟨2, ![8, 128]⟩
abbrev S1x1 : Shape := ⟨2, ![1, 1]⟩
abbrev S1x8x128 : Shape := ⟨3, ![1, 8, 128]⟩
abbrev S1 : Shape := ⟨1, ![1]⟩
abbrev S1x128x128 : Shape := ⟨3, ![1, 128, 128]⟩
abbrev S256x128 : Shape := ⟨2, ![256, 128]⟩
abbrev S16x8x256 : Shape := ⟨3, ![16, 8, 256]⟩
abbrev S1x256x128 : Shape := ⟨3, ![1, 256, 128]⟩
abbrev S256x256 : Shape := ⟨2, ![256, 256]⟩
abbrev S1x128x256 : Shape := ⟨3, ![1, 128, 256]⟩
abbrev S16x128 : Shape := ⟨2, ![16, 128]⟩
abbrev S16x128x1 : Shape := ⟨3, ![16, 128, 1]⟩
abbrev S384x128 : Shape := ⟨2, ![384, 128]⟩
abbrev S384x256 : Shape := ⟨2, ![384, 256]⟩
abbrev S128x384 : Shape := ⟨2, ![128, 384]⟩
abbrev S1x128x384 : Shape := ⟨3, ![1, 128, 384]⟩
abbrev S16x8x64 : Shape := ⟨3, ![16, 8, 64]⟩
abbrev S128x64 : Shape := ⟨2, ![128, 64]⟩

abbrev nBuf : Space → Nat
  | .hbm => 12
  | .vmem => 23
  | .smem => 2
  | _ => 0

abbrev bufTy : (tb : Table) → Fin (tcTables nBuf tb) → BufTy
  | .hbm, ⟨0, _⟩ => ⟨S1024x8704, .bf16⟩
  | .hbm, ⟨1, _⟩ => ⟨S128x128x4x64, .f32⟩
  | .hbm, ⟨2, _⟩ => ⟨S128x128x4x64, .f32⟩
  | .hbm, ⟨3, _⟩ => ⟨S32x16, .f32⟩
  | .hbm, ⟨4, _⟩ => ⟨S16, .f32⟩
  | .hbm, ⟨5, _⟩ => ⟨S128x4x64x128, .f32⟩
  | .hbm, ⟨6, _⟩ => ⟨S128x256x128, .f32⟩
  | .hbm, ⟨7, _⟩ => ⟨S128x4x64x128, .f32⟩
  | .hbm, ⟨8, _⟩ => ⟨S128x256x128, .f32⟩
  | .hbm, ⟨9, _⟩ => ⟨S1024x1024, .bf16⟩
  | .hbm, ⟨10, _⟩ => ⟨S128x256x128, .f32⟩
  | .hbm, ⟨11, _⟩ => ⟨S128x256x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S16x256x128, .f32⟩
  | .local _ .vmem, ⟨7, _⟩ => ⟨S16x256x128, .f32⟩
  | .local _ .vmem, ⟨8, _⟩ => ⟨S16x256x128, .f32⟩
  | .local _ .vmem, ⟨9, _⟩ => ⟨S16x256x128, .f32⟩
  | .local _ .vmem, ⟨10, _⟩ => ⟨S128x1024, .bf16⟩
  | .local _ .vmem, ⟨11, _⟩ => ⟨S128x1024, .bf16⟩
  | .local _ .vmem, ⟨12, _⟩ => ⟨S16x256x128, .f32⟩
  | .local _ .vmem, ⟨13, _⟩ => ⟨S16x256x128, .f32⟩
  | .local _ .vmem, ⟨14, _⟩ => ⟨S16x256x128, .f32⟩
  | .local _ .vmem, ⟨15, _⟩ => ⟨S16x256x128, .f32⟩
  | .local _ .vmem, ⟨16, _⟩ => ⟨S128x128, .f32⟩
  | .local _ .vmem, ⟨17, _⟩ => ⟨S16x128x128, .f32⟩
  | .local _ .vmem, ⟨18, _⟩ => ⟨S128x128, .f32⟩
  | .local _ .vmem, ⟨19, _⟩ => ⟨S16x128x256, .f32⟩
  | .local _ .vmem, ⟨20, _⟩ => ⟨S16x128x256, .f32⟩
  | .local _ .vmem, ⟨21, _⟩ => ⟨S16x128x256, .bf16⟩
  | .local _ .vmem, ⟨22, _⟩ => ⟨S16x128x384, .f32⟩
  | .local _ .smem, ⟨0, _⟩ => ⟨S32x16, .f32⟩
  | .local _ .smem, ⟨1, _⟩ => ⟨S16, .f32⟩
  | _, _ => ⟨S1024x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SlideReferenceIdeal.lean ====
abbrev S1024x8704 : Shape := ⟨2, ![1024, 8704]⟩
abbrev S128x128x4x64 : Shape := ⟨4, ![128, 128, 4, 64]⟩
abbrev S32x16 : Shape := ⟨2, ![32, 16]⟩
abbrev S16 : Shape := ⟨1, ![16]⟩
abbrev S1024x256 : Shape := ⟨2, ![1024, 256]⟩
abbrev S128x8x4x64 : Shape := ⟨4, ![128, 8, 4, 64]⟩
abbrev S128x136x4x64 : Shape := ⟨4, ![128, 136, 4, 64]⟩
abbrev S128x4x64x128 : Shape := ⟨4, ![128, 4, 64, 128]⟩
abbrev S128x256x128 : Shape := ⟨3, ![128, 256, 128]⟩

abbrev nBuf : Space → Nat
  | .hbm => 18
  | .vmem => 0
  | .smem => 0
  | _ => 0

abbrev bufTy : (tb : Table) → Fin (tcTables nBuf tb) → BufTy
  | .hbm, ⟨0, _⟩ => ⟨S1024x8704, .bf16⟩
  | .hbm, ⟨1, _⟩ => ⟨S128x128x4x64, .f32⟩
  | .hbm, ⟨2, _⟩ => ⟨S128x128x4x64, .f32⟩
  | .hbm, ⟨3, _⟩ => ⟨S32x16, .f32⟩
  | .hbm, ⟨4, _⟩ => ⟨S16, .f32⟩
  | .hbm, ⟨5, _⟩ => ⟨S1024x8704, .f32⟩
  | .hbm, ⟨6, _⟩ => ⟨S1024x256, .f32⟩
  | .hbm, ⟨7, _⟩ => ⟨S128x8x4x64, .f32⟩
  | .hbm, ⟨8, _⟩ => ⟨S1024x256, .f32⟩
  | .hbm, ⟨9, _⟩ => ⟨S128x8x4x64, .f32⟩
  | .hbm, ⟨10, _⟩ => ⟨S128x136x4x64, .f32⟩
  | .hbm, ⟨11, _⟩ => ⟨S128x136x4x64, .f32⟩
  | .hbm, ⟨12, _⟩ => ⟨S128x128x4x64, .f32⟩
  | .hbm, ⟨13, _⟩ => ⟨S128x4x64x128, .f32⟩
  | .hbm, ⟨14, _⟩ => ⟨S128x256x128, .f32⟩
  | .hbm, ⟨15, _⟩ => ⟨S128x128x4x64, .f32⟩
  | .hbm, ⟨16, _⟩ => ⟨S128x4x64x128, .f32⟩
  | .hbm, ⟨17, _⟩ => ⟨S128x256x128, .f32⟩
  | _, _ => ⟨S1024x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MixSample.lean ====
abbrev S1024x8704 : Shape := ⟨2, ![1024, 8704]⟩
abbrev S128x2x1024 : Shape := ⟨3, ![128, 2, 1024]⟩
abbrev S1024x1024 : Shape := ⟨2, ![1024, 1024]⟩
abbrev S1024x2048 : Shape := ⟨2, ![1024, 2048]⟩
abbrev S3x1024 : Shape := ⟨2, ![3, 1024]⟩
abbrev S1x2048 : Shape := ⟨2, ![1, 2048]⟩
abbrev S2048x2048 : Shape := ⟨2, ![2048, 2048]⟩
abbrev S256x1024 : Shape := ⟨2, ![256, 1024]⟩
abbrev S32x2x1024 : Shape := ⟨3, ![32, 2, 1024]⟩
abbrev S256x2048 : Shape := ⟨2, ![256, 2048]⟩
abbrev S32x16x1024 : Shape := ⟨3, ![32, 16, 1024]⟩
abbrev S32x8x1024 : Shape := ⟨3, ![32, 8, 1024]⟩
abbrev S1x1024 : Shape := ⟨2, ![1, 1024]⟩
abbrev S256 : Shape := ⟨1, ![256]⟩
abbrev S256x1 : Shape := ⟨2, ![256, 1]⟩

abbrev nBuf : Space → Nat
  | .hbm => 12
  | .vmem => 28
  | .smem => 0
  | _ => 0

abbrev bufTy : (tb : Table) → Fin (tcTables nBuf tb) → BufTy
  | .hbm, ⟨0, _⟩ => ⟨S1024x8704, .bf16⟩
  | .hbm, ⟨1, _⟩ => ⟨S128x2x1024, .f32⟩
  | .hbm, ⟨2, _⟩ => ⟨S1024x1024, .bf16⟩
  | .hbm, ⟨3, _⟩ => ⟨S1024x2048, .f32⟩
  | .hbm, ⟨4, _⟩ => ⟨S3x1024, .f32⟩
  | .hbm, ⟨5, _⟩ => ⟨S1x2048, .f32⟩
  | .hbm, ⟨6, _⟩ => ⟨S1024x2048, .bf16⟩
  | .hbm, ⟨7, _⟩ => ⟨S1024x2048, .bf16⟩
  | .hbm, ⟨8, _⟩ => ⟨S2048x2048, .bf16⟩
  | .hbm, ⟨9, _⟩ => ⟨S1024x2048, .f32⟩
  | .hbm, ⟨10, _⟩ => ⟨S1024x2048, .bf16⟩
  | .hbm, ⟨11, _⟩ => ⟨S128x2x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S32x2x1024, .f32⟩
  | .local _ .vmem, ⟨7, _⟩ => ⟨S32x2x1024, .f32⟩
  | .local _ .vmem, ⟨8, _⟩ => ⟨S3x1024, .f32⟩
  | .local _ .vmem, ⟨9, _⟩ => ⟨S256x1024, .bf16⟩
  | .local _ .vmem, ⟨10, _⟩ => ⟨S256x1024, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | .local _ .vmem, ⟨18, _⟩ => ⟨S1024x2048, .bf16⟩
  | .local _ .vmem, ⟨19, _⟩ => ⟨S1024x2048, .bf16⟩
  | .local _ .vmem, ⟨20, _⟩ => ⟨S2048x2048, .bf16⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | .local _ .vmem, ⟨25, _⟩ => ⟨S32x2x1024, .f32⟩
  | .local _ .vmem, ⟨26, _⟩ => ⟨S32x2x1024, .f32⟩
  | .local _ .vmem, ⟨27, _⟩ => ⟨S32x16x1024, .f32⟩
  | _, _ => ⟨S1024x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixSampleReferenceIdeal.lean ====
abbrev S1024x8704 : Shape := ⟨2, ![1024, 8704]⟩
abbrev S128x2x1024 : Shape := ⟨3, ![128, 2, 1024]⟩
abbrev S1024x1024 : Shape := ⟨2, ![1024, 1024]⟩
abbrev S1024x2048 : Shape := ⟨2, ![1024, 2048]⟩
abbrev S3x1024 : Shape := ⟨2, ![3, 1024]⟩
abbrev S1x2048 : Shape := ⟨2, ![1, 2048]⟩
abbrev S2048x2048 : Shape := ⟨2, ![2048, 2048]⟩
abbrev S128x8x1024 : Shape := ⟨3, ![128, 8, 1024]⟩
abbrev S128x10x1024 : Shape := ⟨3, ![128, 10, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S1024x1 : Shape := ⟨2, ![1024, 1]⟩

abbrev nBuf : Space → Nat
  | .hbm => 84
  | .vmem => 0
  | .smem => 0
  | _ => 0

abbrev bufTy : (tb : Table) → Fin (tcTables nBuf tb) → BufTy
  | .hbm, ⟨0, _⟩ => ⟨S1024x8704, .bf16⟩
  | .hbm, ⟨1, _⟩ => ⟨S128x2x1024, .f32⟩
  | .hbm, ⟨2, _⟩ => ⟨S1024x1024, .bf16⟩
  | .hbm, ⟨3, _⟩ => ⟨S1024x2048, .f32⟩
  | .hbm, ⟨4, _⟩ => ⟨S3x1024, .f32⟩
  | .hbm, ⟨5, _⟩ => ⟨S1x2048, .f32⟩
  | .hbm, ⟨6, _⟩ => ⟨S1024x2048, .bf16⟩
  | .hbm, ⟨7, _⟩ => ⟨S1024x2048, .bf16⟩
  | .hbm, ⟨8, _⟩ => ⟨S2048x2048, .bf16⟩
  | .hbm, ⟨9, _⟩ => ⟨S1024x8704, .f32⟩
  | .hbm, ⟨10, _⟩ => ⟨S1024x2048, .f32⟩
  | .hbm, ⟨11, _⟩ => ⟨S1024x2048, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S128x8x1024, .f32⟩
  | .hbm, ⟨17, _⟩ => ⟨S128x10x1024, .f32⟩
  | .hbm, ⟨18, _⟩ => ⟨S1x1024, .f32⟩
  | .hbm, ⟨19, _⟩ => ⟨S1024, .f32⟩
  | .hbm, ⟨20, _⟩ => ⟨S128x8x1024, .f32⟩
  | .hbm, ⟨21, _⟩ => ⟨S1x1x1024, .f32⟩
  | .hbm, ⟨22, _⟩ => ⟨S128x8x1024, .f32⟩
  | .hbm, ⟨23, _⟩ => ⟨S128x8x1024, .f32⟩
  | .hbm, ⟨24, _⟩ => ⟨S1x1024, .f32⟩
  | .hbm, ⟨25, _⟩ => ⟨S1024, .f32⟩
  | .hbm, ⟨26, _⟩ => ⟨S128x8x1024, .f32⟩
  | .hbm, ⟨27, _⟩ => ⟨S1x1x1024, .f32⟩
  | .hbm, ⟨28, _⟩ => ⟨S128x8x1024, .f32⟩
  | .hbm, ⟨29, _⟩ => ⟨S128x8x1024, .f32⟩
  | .hbm, ⟨30, _⟩ => ⟨S128x8x1024, .f32⟩
  | .hbm, ⟨31, _⟩ => ⟨S1x1024, .f32⟩
  | .hbm, ⟨32, _⟩ => ⟨S1024, .f32⟩
  | .hbm, ⟨33, _⟩ => ⟨S128x8x1024, .f32⟩
  | .hbm, ⟨34, _⟩ => ⟨S1x1x1024, .f32⟩
  | .hbm, ⟨35, _⟩ => ⟨S128x8x1024, .f32⟩
  | .hbm, ⟨36, _⟩ => ⟨S128x8x1024, .f32⟩
  | .hbm, ⟨37, _⟩ => ⟨S128x8x1024, .f32⟩
  | .hbm, ⟨38, _⟩ => ⟨S128x2x1024, .f32⟩
  | .hbm, ⟨39, _⟩ => ⟨S1024x1024, .f32⟩
  | .hbm, ⟨40, _⟩ => ⟨S1024x1024, .f32⟩
  | .hbm, ⟨41, _⟩ => ⟨S1024x2048, .f32⟩
  | .hbm, ⟨42, _⟩ => ⟨S1024x2048, .f32⟩
  | .hbm, ⟨43, _⟩ => ⟨S1024x1024, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S1024x2048, .f32⟩
  | .hbm, ⟨57, _⟩ => ⟨S_, .f32⟩
  | .hbm, ⟨58, _⟩ => ⟨S1024x2048, .f32⟩
  | .hbm, ⟨59, _⟩ => ⟨S1024x2048, .f32⟩
  | .hbm, ⟨60, _⟩ => ⟨S_, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S1024x2048, .f32⟩
  | .hbm, ⟨65, _⟩ => ⟨S2048x2048, .f32⟩
  | .hbm, ⟨66, _⟩ => ⟨S1024x2048, .f32⟩
  | .hbm, ⟨67, _⟩ => ⟨S1024x2048, .f32⟩
  | .hbm, ⟨68, _⟩ => ⟨S1024x2048, .f32⟩
  | .hbm, ⟨69, _⟩ => ⟨S_, .f32⟩
  | .hbm, ⟨70, _⟩ => ⟨S1024, .f32⟩
  | .hbm, ⟨71, _⟩ => ⟨S1024x1, .f32⟩
  | .hbm, ⟨72, _⟩ => ⟨S_, .f32⟩
  | .hbm, ⟨73, _⟩ => ⟨S1024x1, .f32⟩
  | .hbm, ⟨74, _⟩ => ⟨S1024x1, .f32⟩
  | .hbm, ⟨75, _⟩ => ⟨S_, .f32⟩
  | .hbm, ⟨76, _⟩ => ⟨S1024x1, .f32⟩
  | .hbm, ⟨77, _⟩ => ⟨S1024x1, .f32⟩
  | .hbm, ⟨78, _⟩ => ⟨S1024x1, .f32⟩
  | .hbm, ⟨79, _⟩ => ⟨S1024x2048, .f32⟩
  | .hbm, ⟨80, _⟩ => ⟨S1024x2048, .f32⟩
  | .hbm, ⟨81, _⟩ => ⟨S1024x2048, .f32⟩
  | .hbm, ⟨82, _⟩ => ⟨S1024x2048, .f32⟩
  | .hbm, ⟨83, _⟩ => ⟨S1024x2048, .bf16⟩
  | _, _ => ⟨S1024x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_1 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_3 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_cst_5 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== InProjSample.lean ====
abbrev S1024x2048 : Shape := ⟨2, ![1024, 2048]⟩
abbrev S1x2048 : Shape := ⟨2, ![1, 2048]⟩
abbrev S2048x8704 : Shape := ⟨2, ![2048, 8704]⟩
abbrev S8192x8704 : Shape := ⟨2, ![8192, 8704]⟩
abbrev S32x16 : Shape := ⟨2, ![32, 16]⟩
abbrev S16 : Shape := ⟨1, ![16]⟩
abbrev S1024x8704 : Shape := ⟨2, ![1024, 8704]⟩
abbrev S8704x1024 : Shape := ⟨2, ![8704, 1024]⟩
abbrev S4x256x128 : Shape := ⟨3, ![4, 256, 128]⟩
abbrev S2048x512 : Shape := ⟨2, ![2048, 512]⟩
abbrev S64x2048 : Shape := ⟨2, ![64, 2048]⟩
abbrev S512x1024 : Shape := ⟨2, ![512, 1024]⟩
abbrev S128x256 : Shape := ⟨2, ![128, 256]⟩
abbrev S512x256 : Shape := ⟨2, ![512, 256]⟩
abbrev S1024x512 : Shape := ⟨2, ![1024, 512]⟩
abbrev S1x256x128 : Shape := ⟨3, ![1, 256, 128]⟩
abbrev S2x2048x128 : Shape := ⟨3, ![2, 2048, 128]⟩
abbrev S4x2048x256 : Shape := ⟨3, ![4, 2048, 256]⟩
abbrev S128x128 : Shape := ⟨2, ![128, 128]⟩
abbrev S1x1 : Shape := ⟨2, ![1, 1]⟩
abbrev S1x128x128 : Shape := ⟨3, ![1, 128, 128]⟩
abbrev S256x2048 : Shape := ⟨2, ![256, 2048]⟩
abbrev S256 : Shape := ⟨1, ![256]⟩
abbrev S256x1 : Shape := ⟨2, ![256, 1]⟩
abbrev S640x256 : Shape := ⟨2, ![640, 256]⟩
abbrev S128x1024 : Shape := ⟨2, ![128, 1024]⟩
abbrev S256x256 : Shape := ⟨2, ![256, 256]⟩
abbrev S1x2048x256 : Shape := ⟨3, ![1, 2048, 256]⟩
abbrev S2048x256 : Shape := ⟨2, ![2048, 256]⟩
abbrev S1x128x256 : Shape := ⟨3, ![1, 128, 256]⟩
abbrev S256x512 : Shape := ⟨2, ![256, 512]⟩
abbrev S128 : Shape := ⟨1, ![128]⟩
abbrev S128x1 : Shape := ⟨2, ![128, 1]⟩
abbrev S1 : Shape := ⟨1, ![1]⟩
abbrev S256x64 : Shape := ⟨2, ![256, 64]⟩
abbrev S256x128 : Shape := ⟨2, ![256, 128]⟩

abbrev nBuf : Space → Nat
  | .hbm => 14
  | .vmem => 34
  | .smem => 2
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x8704, .f32⟩
  | .hbm, ⟨3, _⟩ => ⟨S1024x2048, .f32⟩
  | .hbm, ⟨4, _⟩ => ⟨S1024x2048, .f32⟩
  | .hbm, ⟨5, _⟩ => ⟨S8192x8704, .bf16⟩
  | .hbm, ⟨6, _⟩ => ⟨S32x16, .f32⟩
  | .hbm, ⟨7, _⟩ => ⟨S16, .f32⟩
  | .hbm, ⟨8, _⟩ => ⟨S1024x8704, .bf16⟩
  | .hbm, ⟨9, _⟩ => ⟨S8704x1024, .bf16⟩
  | .hbm, ⟨10, _⟩ => ⟨S1024x2048, .bf16⟩
  | .hbm, ⟨11, _⟩ => ⟨S1024x2048, .bf16⟩
  | .hbm, ⟨12, _⟩ => ⟨S4x256x128, .f32⟩
  | .hbm, ⟨13, _⟩ => ⟨S4x256x128, .f32⟩
  | .local _ .vmem, ⟨0, _⟩ => ⟨S1024x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S512x1024, .bf16⟩
  | .local _ .vmem, ⟨9, _⟩ => ⟨S512x1024, .bf16⟩
  | .local _ .vmem, ⟨10, _⟩ => ⟨S128x256, .bf16⟩
  | .local _ .vmem, ⟨11, _⟩ => ⟨S128x256, .bf16⟩
  | .local _ .vmem, ⟨12, _⟩ => ⟨S512x256, .bf16⟩
  | .local _ .vmem, ⟨13, _⟩ => ⟨S512x256, .bf16⟩
  | .local _ .vmem, ⟨14, _⟩ => ⟨S128x256, .bf16⟩
  | .local _ .vmem, ⟨15, _⟩ => ⟨S128x256, .bf16⟩
  | .local _ .vmem, ⟨16, _⟩ => ⟨S512x256, .bf16⟩
  | .local _ .vmem, ⟨17, _⟩ => ⟨S512x256, .bf16⟩
  | .local _ .vmem, ⟨18, _⟩ => ⟨S1024x512, .bf16⟩
  | .local _ .vmem, ⟨19, _⟩ => ⟨S1024x512, .bf16⟩
  | .local _ .vmem, ⟨20, _⟩ => ⟨S512x1024, .bf16⟩
  | .local _ .vmem, ⟨21, _⟩ => ⟨S512x1024, .bf16⟩
  | .local _ .vmem, ⟨22, _⟩ => ⟨S64x2048, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1024x2048, .bf16⟩
  | .local _ .vmem, ⟨31, _⟩ => ⟨S2048x512, .bf16⟩
  | .local _ .vmem, ⟨32, _⟩ => ⟨S2x2048x128, .f32⟩
  | .local _ .vmem, ⟨33, _⟩ => ⟨S4x2048x256, .bf16⟩
  | .local _ .smem, ⟨0, _⟩ => ⟨S32x16, .f32⟩
  | .local _ .smem, ⟨1, _⟩ => ⟨S16, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_1785 : BitVec 32 := 0#32
  let c4_i32_1786 : BitVec 32 := 4#32
  let v4967 : BitVec 32 := Scalar.addi c0_i32_1785 c4_i32_1786
  let c1_i32_1787 : BitVec 32 := 1#32
  ⟨c0_i32_1785, v4967, c1_i32_1787⟩
def k0_mult1 (k0_t1 : Fin k0_t1_loop.trips) : BitVec 32 :=
  let c0_i32_1785 : BitVec 32 := 0#32
  let c1_i32_1787 : BitVec 32 := 1#32
  let arg23 : BitVec 32 := Scf.iv c0_i32_1785 c1_i32_1787 k0_t1
  let c256_i32 : BitVec 32 := 256#32
  let v4968 : BitVec 32 := Scalar.muli arg23 c256_i32
  v4968
def k0_off1 (k0_t1 : Fin k0_t1_loop.trips) : Fin 2 → Nat :=
  let c0_i32_1785 : BitVec 32 := 0#32
  let c1_i32_1787 : BitVec 32 := 1#32
  let arg23 : BitVec 32 := Scf.iv c0_i32_1785 c1_i32_1787 k0_t1
  let c256_i32 : BitVec 32 := 256#32
  let v4968 : BitVec 32 := Scalar.muli arg23 c256_i32
  let v4969 : BitVec 32 := v4968
  let v4970 : Index := Scalar.indexCast v4969
  let c0_1789 : Index := 0#32
  ![v4970.toNat, 0]
def k0_off2 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1299 : Index := Scalar.indexCast v1295
  let c0_533 : Index := 0#32
  let c0_534 : Index := 0#32
  ![v1299.toNat, 0, 0]
def k0_off3 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1328 : Index := Scalar.indexCast v1295
  let c128_542 : Index := 128#32
  let c0_543 : Index := 0#32
  ![v1328.toNat, 128, 0]
def k0_off4 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1357 : Index := Scalar.indexCast v1295
  let c256_551 : Index := 256#32
  let c0_552 : Index := 0#32
  ![v1357.toNat, 256, 0]
def k0_off5 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1386 : Index := Scalar.indexCast v1295
  let c384_559 : Index := 384#32
  let c0_560 : Index := 0#32
  ![v1386.toNat, 384, 0]
def k0_off6 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1415 : Index := Scalar.indexCast v1295
  let c512_567 : Index := 512#32
  let c0_568 : Index := 0#32
  ![v1415.toNat, 512, 0]
def k0_off7 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1444 : Index := Scalar.indexCast v1295
  let c640_575 : Index := 640#32
  let c0_576 : Index := 0#32
  ![v1444.toNat, 640, 0]
def k0_off8 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1473 : Index := Scalar.indexCast v1295
  let c768_583 : Index := 768#32
  let c0_584 : Index := 0#32
  ![v1473.toNat, 768, 0]
def k0_off9 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1502 : Index := Scalar.indexCast v1295
  let c896_591 : Index := 896#32
  let c0_592 : Index := 0#32
  ![v1502.toNat, 896, 0]
def k0_off10 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1531 : Index := Scalar.indexCast v1295
  let c1024_599 : Index := 1024#32
  let c0_600 : Index := 0#32
  ![v1531.toNat, 1024, 0]
def k0_off11 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1560 : Index := Scalar.indexCast v1295
  let c1152_607 : Index := 1152#32
  let c0_608 : Index := 0#32
  ![v1560.toNat, 1152, 0]
def k0_off12 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1589 : Index := Scalar.indexCast v1295
  let c1280_615 : Index := 1280#32
  let c0_616 : Index := 0#32
  ![v1589.toNat, 1280, 0]
def k0_off13 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1618 : Index := Scalar.indexCast v1295
  let c1408_623 : Index := 1408#32
  let c0_624 : Index := 0#32
  ![v1618.toNat, 1408, 0]
def k0_off14 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1647 : Index := Scalar.indexCast v1295
  let c1536_631 : Index := 1536#32
  let c0_632 : Index := 0#32
  ![v1647.toNat, 1536, 0]
def k0_off15 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1676 : Index := Scalar.indexCast v1295
  let c1664_639 : Index := 1664#32
  let c0_640 : Index := 0#32
  ![v1676.toNat, 1664, 0]
def k0_off16 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1705 : Index := Scalar.indexCast v1295
  let c1792_647 : Index := 1792#32
  let c0_648 : Index := 0#32
  ![v1705.toNat, 1792, 0]
def k0_off17 (i : grid0.Coords) : Fin 3 → Nat :=
  let arg0 : BitVec 32 := BitVec.ofNat 32 (i 0).val
  let c4_i32 : BitVec 32 := 4#32
  let c0_i32_14 : BitVec 32 := 0#32
  let v17 : BitVec 1 := Scalar.cmpi .eq c4_i32 c0_i32_14
  let c1_i32 : BitVec 32 := 1#32
  let v18 : BitVec 32 := Scalar.select v17 c1_i32 c4_i32
  let v19 : BitVec 32 := Scalar.remsi arg0 v18
  let c0_i32_16 : BitVec 32 := 0#32
  let v21 : BitVec 1 := Scalar.cmpi .slt v19 c0_i32_16
  let c0_i32_17 : BitVec 32 := 0#32
  let v22 : BitVec 1 := Scalar.cmpi .slt v18 c0_i32_17
  let v23 : BitVec 1 := Scalar.xori v21 v22
  let c0_i32_15 : BitVec 32 := 0#32
  let v20 : BitVec 1 := Scalar.cmpi .ne v19 c0_i32_15
  let v24 : BitVec 1 := Scalar.andi v23 v20
  let v25 : BitVec 32 := Scalar.addi v19 v18
  let v26 : BitVec 32 := Scalar.select v24 v25 v19
  let c0_i32_18 : BitVec 32 := 0#32
  let v27 : BitVec 1 := Scalar.cmpi .ne v26 c0_i32_18
  let v1295 : BitVec 32 := Scalar.extui v27
  let v1734 : Index := Scalar.indexCast v1295
  let c1920_655 : Index := 1920#32
  let c0_656 : Index := 0#32
  ![v1734.toNat, 1920, 0]
def k0_cond3 (i : grid0.Coords) : BitVec 1 :=
  let arg0 : BitVec 32 := BitVec.ofNat 32 (i 0).val
  let c4_i32_1777 : BitVec 32 := 4#32
  let c0_i32_1778 : BitVec 32 := 0#32
  let v4954 : BitVec 1 := Scalar.cmpi .eq c4_i32_1777 c0_i32_1778
  let c1_i32_1779 : BitVec 32 := 1#32
  let v4955 : BitVec 32 := Scalar.select v4954 c1_i32_1779 c4_i32_1777
  let v4956 : BitVec 32 := Scalar.remsi arg0 v4955
  let c0_i32_1781 : BitVec 32 := 0#32
  let v4958 : BitVec 1 := Scalar.cmpi .slt v4956 c0_i32_1781
  let c0_i32_1782 : BitVec 32 := 0#32
  let v4959 : BitVec 1 := Scalar.cmpi .slt v4955 c0_i32_1782
  let v4960 : BitVec 1 := Scalar.xori v4958 v4959
  let c0_i32_1780 : BitVec 32 := 0#32
  let v4957 : BitVec 1 := Scalar.cmpi .ne v4956 c0_i32_1780
  let v4961 : BitVec 1 := Scalar.andi v4960 v4957
  let v4962 : BitVec 32 := Scalar.addi v4956 v4955
  let v4963 : BitVec 32 := Scalar.select v4961 v4962 v4956
  let c3_i32_1783 : BitVec 32 := 3#32
  let v4964 : BitVec 1 := Scalar.cmpi .eq v4963 c3_i32_1783
  let v4965 : BitVec 32 := Scalar.extui v4964
  let c0_i32_1784 : BitVec 32 := 0#32
  let v4966 : BitVec 1 := Scalar.cmpi .ne v4965 c0_i32_1784
  v4966

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c9_i32 : BitVec 32 := 9#32
  let v0 : BitVec 32 := Scalar.addi arg0 c9_i32
  let c17_i32 : BitVec 32 := 17#32
  let c0_i32 : BitVec 32 := 0#32
  let v1 : BitVec 1 := Scalar.cmpi .eq c17_i32 c0_i32
  let c1_i32 : BitVec 32 := 1#32
  let v2 : BitVec 32 := Scalar.select v1 c1_i32 c17_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![c0_i32_3.toNat, v10.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c7_i32 : BitVec 32 := 7#32
  let c0_i32 : BitVec 32 := 0#32
  ![v0.toNat, c7_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c15_i32_0 : BitVec 32 := 15#32
  let v2 : BitVec 32 := Scalar.minsi arg0 c15_i32_0
  let c4_i32_1 : BitVec 32 := 4#32
  let c0_i32 : BitVec 32 := 0#32
  let v3 : BitVec 1 := Scalar.cmpi .eq c4_i32_1 c0_i32
  let c1_i32 : BitVec 32 := 1#32
  let v4 : BitVec 32 := Scalar.select v3 c1_i32 c4_i32_1
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c1_i32_5 : BitVec 32 := 1#32
  let v13 : BitVec 32 := Scalar.minsi v12 c1_i32_5
  let v14 : BitVec 32 := Scalar.subi v1 v13
  let c32_i32 : BitVec 32 := 32#32
  let c0_i32_6 : BitVec 32 := 0#32
  ![v14.toNat, c32_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c32_i32 : BitVec 32 := 32#32
  let c0_i32 : BitVec 32 := 0#32
  ![v0.toNat, c32_i32.toNat]

def cc0_transform_10 (i : grid0.Coords) : Fin 2 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.muli v0 c4_i32
  let c15_i32_0 : BitVec 32 := 15#32
  let v2 : BitVec 32 := Scalar.minsi arg0 c15_i32_0
  let c4_i32_1 : BitVec 32 := 4#32
  let c0_i32 : BitVec 32 := 0#32
  let v3 : BitVec 1 := Scalar.cmpi .eq c4_i32_1 c0_i32
  let c1_i32 : BitVec 32 := 1#32
  let v4 : BitVec 32 := Scalar.select v3 c1_i32 c4_i32_1
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c1_i32_5 : BitVec 32 := 1#32
  let v13 : BitVec 32 := Scalar.minsi v12 c1_i32_5
  let v14 : BitVec 32 := Scalar.subi v1 v13
  let c33_i32 : BitVec 32 := 33#32
  let c0_i32_6 : BitVec 32 := 0#32
  ![v14.toNat, c33_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c33_i32 : BitVec 32 := 33#32
  let c0_i32 : BitVec 32 := 0#32
  ![v0.toNat, c33_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_16 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_17 (i : grid0.Coords) : Fin 3 → Nat :=
  let arg0 : BitVec 32 := BitVec.ofNat 32 (i 0).val
  let c15_i32 : BitVec 32 := 15#32
  let v0 : BitVec 32 := Scalar.minsi arg0 c15_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S32x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InProjSampleReferenceIdeal.lean ====
abbrev S1024x2048 : Shape := ⟨2, ![1024, 2048]⟩
abbrev S1x2048 : Shape := ⟨2, ![1, 2048]⟩
abbrev S2048x8704 : Shape := ⟨2, ![2048, 8704]⟩
abbrev S8192x8704 : Shape := ⟨2, ![8192, 8704]⟩
abbrev S32x16 : Shape := ⟨2, ![32, 16]⟩
abbrev S16 : Shape := ⟨1, ![16]⟩
abbrev S_ : Shape := ⟨0, ![]⟩
abbrev S1024 : Shape := ⟨1, ![1024]⟩
abbrev S1024x1 : Shape := ⟨2, ![1024, 1]⟩
abbrev S1024x8704 : Shape := ⟨2, ![1024, 8704]⟩
abbrev S1024x4096 : Shape := ⟨2, ![1024, 4096]⟩
abbrev S1024x4608 : Shape := ⟨2, ![1024, 4608]⟩
abbrev S8192x256 : Shape := ⟨2, ![8192, 256]⟩
abbrev S4x2048x4x64 : Shape := ⟨4, ![4, 2048, 4, 64]⟩
abbrev S4x128x4x64 : Shape := ⟨4, ![4, 128, 4, 64]⟩
abbrev S4x4x64x128 : Shape := ⟨4, ![4, 4, 64, 128]⟩
abbrev S4x256x128 : Shape := ⟨3, ![4, 256, 128]⟩

abbrev nBuf : Space → Nat
  | .hbm => 41
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x8704, .f32⟩
  | .hbm, ⟨3, _⟩ => ⟨S1024x2048, .f32⟩
  | .hbm, ⟨4, _⟩ => ⟨S1024x2048, .f32⟩
  | .hbm, ⟨5, _⟩ => ⟨S8192x8704, .bf16⟩
  | .hbm, ⟨6, _⟩ => ⟨S32x16, .f32⟩
  | .hbm, ⟨7, _⟩ => ⟨S16, .f32⟩
  | .hbm, ⟨8, _⟩ => ⟨S1024x2048, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x1, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S1024x2048, .f32⟩
  | .hbm, ⟨23, _⟩ => ⟨S1024x8704, .f32⟩
  | .hbm, ⟨24, _⟩ => ⟨S1024x4096, .f32⟩
  | .hbm, ⟨25, _⟩ => ⟨S1024x4608, .f32⟩
  | .hbm, ⟨26, _⟩ => ⟨S1024x8704, .f32⟩
  | .hbm, ⟨27, _⟩ => ⟨S8192x8704, .f32⟩
  | .hbm, ⟨28, _⟩ => ⟨S8192x256, .f32⟩
  | .hbm, ⟨29, _⟩ => ⟨S4x2048x4x64, .f32⟩
  | .hbm, ⟨30, _⟩ => ⟨S8192x256, .f32⟩
  | .hbm, ⟨31, _⟩ => ⟨S4x2048x4x64, .f32⟩
  | .hbm, ⟨32, _⟩ => ⟨S4x128x4x64, .f32⟩
  | .hbm, ⟨33, _⟩ => ⟨S4x4x64x128, .f32⟩
  | .hbm, ⟨34, _⟩ => ⟨S4x256x128, .f32⟩
  | .hbm, ⟨35, _⟩ => ⟨S4x128x4x64, .f32⟩
  | .hbm, ⟨36, _⟩ => ⟨S4x4x64x128, .f32⟩
  | .hbm, ⟨37, _⟩ => ⟨S4x256x128, .f32⟩
  | .hbm, ⟨38, _⟩ => ⟨S1024x8704, .bf16⟩
  | .hbm, ⟨39, _⟩ => ⟨S1024x2048, .bf16⟩
  | .hbm, ⟨40, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.SlideValue.lean ====
module

public import proofs.«01_k».proof.Proof.Gen.SlideIdeal.Value
public import proofs.«01_k».proof.Proof.Gen.SlideReferenceIdeal.Read
public import Idealize.ShloMosaic.Lib.Pointwise
public import Idealize.ShloMosaic.Lib.Pipeline.ValueKit

@[expose] public section

set_option maxRecDepth 16384

noncomputable section

namespace Cert.Proof.SlideValue

open Cert.SlideIdeal Cert.SlideIdeal.Gen
open Idealize.ShloMosaic Idealize.ShloMosaic.TcCoe Idealize.ShloMosaic.Tactic Idealize.SL.Sem
open Idealize.ShloMosaic.Pipeline (Dat)
open Cert.SlideReferenceIdeal.Read

/-! # The updated window buffers are the reference's

Point `t` works on 16 sequences. For each it turns the window buffer by eight places to the left and puts the columns of the
sequence's eight new positions in the last eight places; it picks these by a product with a matrix of zeros and ones. -/

/-- What the kernel stores for one sequence: `b` is the row of the sequence's first new position, `v7` the new columns of all
    rows (transposed), `v` the sequence's window buffer. -/
def slidPay (b : BitVec 32) (v7 : FVec Ideal S256x128 .bf16) (v : Vec Ideal S1x256x128 .f32) : FVec Ideal S1x256x128 .f32 :=
  shapeCast S1x256x128 (select k0_pay503
    (matmul dot_S256x128_S128x128_S256x128_1_0_0_1_n_n none v7
      (truncf .bf16 (select (cmpi .eq k0_pay504 (broadcast S128x128 b)) (broadcast S128x128 (Scalar.ofBits (F := Ideal) .f32 0x3F800000#32))
        (broadcast S128x128 (Scalar.ofBits (F := Ideal) .f32 0x00000000#32))) bitsLt_bf16_f32) (constant S256x128 .f32 0x00000000#32))
    (dynamicRotate 1 120#32 none (shapeCast S256x128 v shapeCasts_S1x256x128_S256x128) rotates_S256x128_d1)) shapeCasts_S256x128_S1x256x128

/-- A place is among the last eight exactly where the kernel's signed comparison says so. -/
theorem sge_iff (l : ℕ) (hl : l < 128) : IntOp.cmpi .sge (BitVec.ofNat 32 l) 120#32 = if 120 ≤ l then 1#1 else 0#1 :=
  (by decide +kernel : ∀ l : Fin 128, IntOp.cmpi .sge (BitVec.ofNat 32 l.val) 120#32 = if 120 ≤ l.val then 1#1 else 0#1) ⟨l, hl⟩

/-- The place `l ≥ 120` takes row `k` exactly where `k` is the `(l - 120)`-th row of sequence `n`. -/
theorem row_iff (k l n : ℕ) (hk : k < 128) (hl : l < 128) (h : 120 ≤ l) (hn : n < 16) :
    IntOp.cmpi .eq (IntOp.subi (BitVec.ofNat 32 k) (IntOp.subi (BitVec.ofNat 32 l) 120#32)) (BitVec.ofNat 32 (8 * n))
      = if k = 8 * n + (l - 120) then 1#1 else 0#1 := by
  have e : (BitVec.ofNat 32 k - (BitVec.ofNat 32 l - 120#32) = BitVec.ofNat 32 (8 * n)) ↔ k = 8 * n + (l - 120) := by
    constructor
    · intro h'; have := congrArg BitVec.toNat h'; simp at this; omega
    · intro h'; apply BitVec.eq_of_toNat_eq; simp; omega
  simp only [IntOp.cmpi, IntOp.subi]
  by_cases h1 : k = 8 * n + (l - 120)
  · rw [if_pos h1, e.mpr h1]; simp
  · rw [if_neg h1, beq_eq_false_iff_ne.mpr fun h' => h1 (e.mp h')]; rfl

/-- A choice on a true bit, and on a false one. -/
theorem select_one {α : Type} (a b : α) : Scalar.select (1#1) a b = a := rfl
theorem select_zero {α : Type} (a b : α) : Scalar.select (0#1) a b = b := rfl

/-- The stored buffer is the old one eight places on, then the eight new columns. -/
theorem slidPay_apply (n : ℕ) (hn : n < 16) (x3 : Vec Ideal S128x256 .bf16) (v : Vec Ideal S1x256x128 .f32) (x : S1x256x128.Idx) :
    slidPay (BitVec.ofNat 32 (8 * n)) (k0_pay501 x3) v x
      = if h : 8 + (x 2).val < 128 then v (ix3 ⟨0, by decide⟩ (x 1) ⟨8 + (x 2).val, h⟩)
        else x3 (ix2 ⟨8 * n + (8 + (x 2).val - 128), by have := (x 2).isLt; change (x 2).val < 128 at this; simp only []; omega⟩ (x 1)) := by
  have hl : (x 2).val < 128 := (x 2).isLt
  pointwise [slidPay, k0_pay503, k0_pay504, k0_pay501]
  rw [sge_iff _ hl]
  by_cases h : 120 ≤ (x 2).val
  · rw [dif_neg (by omega), if_pos h]
    simp only [select_one]
    rw [Finset.sum_eq_single (⟨8 * n + ((x 2).val - 120), by omega⟩ : Fin 128)]
    · rw [row_iff _ _ n (by omega) hl h hn, if_pos rfl, select_one]
      refine congrArg x3 (congrArg₂ ix2 (Fin.ext ?_) rfl)
      show 8 * n + ((x 2).val - 120) = 8 * n + (8 + (x 2).val - 128)
      omega
    · intro k _ hk
      rw [row_iff _ _ n k.isLt hl h hn, if_neg fun e => hk (Fin.ext e), select_zero]
    · exact fun h => absurd (Finset.mem_univ _) h
  · rw [dif_pos (by omega), if_neg h, select_zero]
    refine congrArg v (congrArg (ix3 _ _) (Fin.ext ?_))
    show ((x 2).val + 128 - 120) % 128 = 8 + (x 2).val
    omega

/-- The sixteen stored window buffers of a point, from the buffers `v` and the new columns `x3` it reads. -/
def slidAt (x3 : Vec Ideal S128x256 .bf16) (v : Vec Ideal S16x256x128 .f32) : Vec Ideal S16x256x128 .f32 := fun y =>
  if h : 8 + (y 2).val < 128 then v (ix3 (y 0) (y 1) ⟨8 + (y 2).val, h⟩)
  else x3 (ix2 ⟨8 * (y 0).val + (8 + (y 2).val - 128), by
    have := (y 2).isLt; change (y 2).val < 128 at this; have := (y 0).isLt; change (y 0).val < 16 at this; omega⟩ (y 1))

/-- Sequence `n`'s piece of what a point stores. -/
theorem piece (x3 : Vec Ideal S128x256 .bf16) (v : Vec Ideal S16x256x128 .f32) (y : S16x256x128.Idx) (n : ℕ) (hn : n < 16)
    (inb : ∀ a, (![n, 0, 0] : Fin 3 → Nat) a + S1x256x128.size a ≤ S16x256x128.size a) :
    View.RectAt (Val := Elt Ideal) (e := .f32) y (Rect.unit (s := S16x256x128) ![n, 0, 0] S1x256x128.size inb)
      (slidPay (BitVec.ofNat 32 (8 * n)) (k0_pay501 x3) (View.ld (Val := Elt Ideal) v (Rect.unit ![n, 0, 0] S1x256x128.size inb))) (slidAt x3 v y) := by
  intro x hx
  have e0 : (y 0 : ℕ) = n := by
    have : (x 0 : ℕ) < 1 := (x 0).isLt
    rw [← hx, Rect.emb_apply]; show n + 1 * (x 0 : ℕ) = _; omega
  have e1 : y 1 = x 1 := Fin.ext (by rw [← hx, Rect.emb_apply]; show 0 + 1 * (x 1 : ℕ) = _; omega)
  have e2 : y 2 = x 2 := Fin.ext (by rw [← hx, Rect.emb_apply]; show 0 + 1 * (x 2 : ℕ) = _; omega)
  refine (slidPay_apply n hn x3 _ x).trans ?_
  unfold slidAt
  by_cases h : 8 + (x 2 : ℕ) < 128
  · rw [dif_pos h, dif_pos (by rw [e2]; exact h)]
    refine View.ld_unit_apply_of _ _ _ _ _ _ fun a => ?_
    fin_cases a
    · show (y 0 : ℕ) = n + 0; omega
    · show (y 1 : ℕ) = 0 + (x 1 : ℕ); rw [e1]; omega
    · show 8 + (y 2 : ℕ) = 0 + (8 + (x 2 : ℕ)); rw [e2]; omega
  · rw [dif_neg h, dif_neg (by rw [e2]; exact h)]
    refine congrArg x3 (congrArg₂ ix2 (Fin.ext ?_) e1.symm)
    show 8 * n + (8 + (x 2 : ℕ) - 128) = 8 * (y 0 : ℕ) + (8 + (y 2 : ℕ) - 128)
    rw [e0, e2]

variable (m : (ℓ : Loc nD τ sig) → Buf (Elt Ideal) ℓ)

/-- What a point leaves for the key buffers. -/
theorem outs_8 (c : Dev nD) (t : Fin cfg0.N) :
    (outsAt0 m c t.val t.isLt).2.1 = slidAt (iblk m c 3 t) (iblk m c 5 t) := by
  funext y
  by_cases h0 : t.val % 8 = 0
  all_goals
    first
    | rw [outsAt0_A m c t h0]; dsimp only; unfold out0_A_8
    | rw [outsAt0_B m c t h0]; dsimp only; unfold out0_B_8
    frame_out
    refine View.canon_eq_of_allAt (Val := Elt Ideal) _ y _ (View.cover_of_tiledL (s := S16x256x128) _ S1x256x128.size (by sl_kernel_rfl) y) ?_
    iterate 16 refine View.allAt_cons _ _ _ (piece (iblk m c 3 t) (iblk m c 5 t) y _ (by decide) _) ?_
    exact View.allAt_nil _ _

/-- What a point leaves for the value buffers. -/
theorem outs_9 (c : Dev nD) (t : Fin cfg0.N) :
    (outsAt0 m c t.val t.isLt).2.2.1 = slidAt (iblk m c 4 t) (iblk m c 6 t) := by
  funext y
  by_cases h0 : t.val % 8 = 0
  all_goals
    first
    | rw [outsAt0_A m c t h0]; dsimp only; unfold out0_A_9
    | rw [outsAt0_B m c t h0]; dsimp only; unfold out0_B_9
    frame_out
    refine View.canon_eq_of_allAt (Val := Elt Ideal) _ y _ (View.cover_of_tiledL (s := S16x256x128) _ S1x256x128.size (by sl_kernel_rfl) y) ?_
    iterate 16 refine View.allAt_cons _ _ _ (piece (iblk m c 4 t) (iblk m c 6 t) y _ (by decide) _) ?_
    exact View.allAt_nil _ _

/-- The blocks of the windows at a point. -/
theorem idx : ∀ t : Fin cfg0.N, win0_3.index t = ![t.val, 32] ∧ win0_4.index t = ![t.val, 33] ∧ win0_5.index t = ![t.val, 0, 0]
    ∧ win0_6.index t = ![t.val, 0, 0] ∧ win0_8.index t = ![t.val, 0, 0] ∧ win0_9.index t = ![t.val, 0, 0] ∧ t.val < 8 :=
  (by decide +kernel : ∀ t : Fin grid0.N, _)

/-- A cache with its axes reordered, its heads laid out one after the other, at a place. -/
theorem turned (x : FVec Ideal S128x128x4x64 .f32) (y : S128x256x128.Idx) :
    shapeCast S128x256x128 (transpose S128x4x64x128 [0, 2, 3, 1] x transposes_S128x128x4x64_S128x4x64x128_0_2_3_1)
        shapeCasts_S128x4x64x128_S128x256x128 y
      = x (ix4 (y 0) (y 2) ⟨(y 1).val / 64, by have := (y 1).isLt; change (y 1).val < 256 at this; simp only []; omega⟩
          ⟨(y 1).val % 64, Nat.mod_lt _ (by decide)⟩) := by
  pointwise []

/-- The key buffers before the region are the cache with its axes reordered; -/
theorem cache_k (c : Dev nD) : V m c main_v1
    = shapeCast S128x256x128 (transpose S128x4x64x128 [0, 2, 3, 1] (m ((c : Thread nD τ).loc main_arg1)) transposes_S128x128x4x64_S128x4x64x128_0_2_3_1)
        shapeCasts_S128x4x64x128_S128x256x128 := by
  unfold V
  after_results
  rfl

/-- so are the value buffers; -/
theorem cache_v (c : Dev nD) : V m c main_v3
    = shapeCast S128x256x128 (transpose S128x4x64x128 [0, 2, 3, 1] (m ((c : Thread nD τ).loc main_arg2)) transposes_S128x128x4x64_S128x4x64x128_0_2_3_1)
        shapeCasts_S128x4x64x128_S128x256x128 := by
  unfold V
  after_results
  rfl

/-- and the projected columns are the argument. -/
theorem arg_z (c : Dev nD) : V m c main_arg0 = m ((c : Thread nD τ).loc main_arg0) := by
  unfold V
  after_results

/-- A key buffer of a point's block, by its place in the cache. -/
theorem blk_k (c : Dev nD) (t : Fin cfg0.N) (y : S16x256x128.Idx) (i : S128x128x4x64.Idx) (h0 : (i 0 : ℕ) = 16 * t.val + y 0) (h1 : (i 1 : ℕ) = y 2)
    (h2 : (i 2 : ℕ) = (y 1 : ℕ) / 64) (h3 : (i 3 : ℕ) = (y 1 : ℕ) % 64) :
    iblk m c 5 t y = m ((c : Thread nD τ).loc main_arg1) i := by
  have e0 : ((((cfg0.win 5).blk t).view.emb y 0 : Fin _) : ℕ) = 16 * t.val + (y 0 : ℕ) := by blk_simp [idx t]; omega
  have e1 : ((((cfg0.win 5).blk t).view.emb y 1 : Fin _) : ℕ) = (y 1 : ℕ) := by blk_simp [idx t]
  have e2 : ((((cfg0.win 5).blk t).view.emb y 2 : Fin _) : ℕ) = (y 2 : ℕ) := by blk_simp [idx t]
  show V m c main_v1 (((cfg0.win 5).blk t).view.emb y) = _
  rw [cache_k, turned]
  refine congrArg _ (funext fun a => Fin.ext ?_)
  fin_cases a
  · exact e0.trans h0.symm
  · exact e2.trans h1.symm
  · exact (congrArg (· / 64) e1).trans h2.symm
  · exact (congrArg (· % 64) e1).trans h3.symm

/-- A new key column of a point's block, by its place in `z`. -/
theorem new_k (c : Dev nD) (t : Fin cfg0.N) (y : S128x256.Idx) (i : S1024x8704.Idx) (h0 : (i 0 : ℕ) = 128 * t.val + y 0) (h1 : (i 1 : ℕ) = 8192 + (y 1 : ℕ)) :
    iblk m c 3 t y = m ((c : Thread nD τ).loc main_arg0) i := by
  blk_point [iblk, arg_z, idx t]

/-- A value buffer of a point's block, by its place in the cache. -/
theorem blk_v (c : Dev nD) (t : Fin cfg0.N) (y : S16x256x128.Idx) (i : S128x128x4x64.Idx) (h0 : (i 0 : ℕ) = 16 * t.val + y 0) (h1 : (i 1 : ℕ) = y 2)
    (h2 : (i 2 : ℕ) = (y 1 : ℕ) / 64) (h3 : (i 3 : ℕ) = (y 1 : ℕ) % 64) :
    iblk m c 6 t y = m ((c : Thread nD τ).loc main_arg2) i := by
  have e0 : ((((cfg0.win 6).blk t).view.emb y 0 : Fin _) : ℕ) = 16 * t.val + (y 0 : ℕ) := by blk_simp [idx t]; omega
  have e1 : ((((cfg0.win 6).blk t).view.emb y 1 : Fin _) : ℕ) = (y 1 : ℕ) := by blk_simp [idx t]
  have e2 : ((((cfg0.win 6).blk t).view.emb y 2 : Fin _) : ℕ) = (y 2 : ℕ) := by blk_simp [idx t]
  show V m c main_v3 (((cfg0.win 6).blk t).view.emb y) = _
  rw [cache_v, turned]
  refine congrArg _ (funext fun a => Fin.ext ?_)
  fin_cases a
  · exact e0.trans h0.symm
  · exact e2.trans h1.symm
  · exact (congrArg (· / 64) e1).trans h2.symm
  · exact (congrArg (· % 64) e1).trans h3.symm

/-- A new value column of a point's block, by its place in `z`. -/
theorem new_v (c : Dev nD) (t : Fin cfg0.N) (y : S128x256.Idx) (i : S1024x8704.Idx) (h0 : (i 0 : ℕ) = 128 * t.val + y 0) (h1 : (i 1 : ℕ) = 8448 + (y 1 : ℕ)) :
    iblk m c 4 t y = m ((c : Thread nD τ).loc main_arg0) i := by
  blk_point [iblk, arg_z, idx t]

/-- The stored key buffers are the reference's where the buffers and the new columns they are made of are its. -/
theorem point_k (t : ℕ) (x3 : Vec Ideal S128x256 .bf16) (v : Vec Ideal S16x256x128 .f32) (z : FVec Ideal S1024x8704 .bf16) (cache : FVec Ideal S128x128x4x64 .f32)
    (hv : ∀ (y : S16x256x128.Idx) (i : S128x128x4x64.Idx), (i 0 : ℕ) = 16 * t + y 0 → (i 1 : ℕ) = y 2 → (i 2 : ℕ) = (y 1 : ℕ) / 64 → (i 3 : ℕ) = (y 1 : ℕ) % 64 → v y = cache i)
    (hn : ∀ (y : S128x256.Idx) (i : S1024x8704.Idx), (i 0 : ℕ) = 128 * t + y 0 → (i 1 : ℕ) = 8192 + (y 1 : ℕ) → x3 y = z i)
    (y : S16x256x128.Idx) (i : S128x256x128.Idx) (h0 : (i 0 : ℕ) = 16 * t + y 0) (h1 : (i 1 : ℕ) = y 1) (h2 : (i 2 : ℕ) = y 2) :
    slidAt x3 v y = val_main_v9 (F := Ideal) z cache i := by
  pointwise [val_main_v9, val_main_v8, val_main_v7, val_main_v5, val_main_v2, val_main_v1, val_main_v0]
  unfold slidAt
  by_cases h : 8 + (y 2 : ℕ) < 128
  · refine (dif_pos h).trans (Eq.trans ?_ (dif_pos (by rw [h2]; exact h)).symm)
    refine hv _ _ ?_ ?_ ?_ ?_
    · exact h0
    · show 8 + (i 2 : ℕ) = 8 + (y 2 : ℕ); omega
    · show (i 1 : ℕ) / 64 = (y 1 : ℕ) / 64; rw [h1]
    · show (i 1 : ℕ) % 64 = (y 1 : ℕ) % 64; rw [h1]
  · refine (dif_neg h).trans (Eq.trans ?_ (dif_neg (by rw [h2]; exact h)).symm)
    refine hn _ _ ?_ ?_
    · show (i 0 : ℕ) * 8 + (8 + (i 2 : ℕ) - 128) = 128 * t + (8 * (y 0 : ℕ) + (8 + (y 2 : ℕ) - 128)); omega
    · show 8192 + (i 1 : ℕ) = 8192 + (y 1 : ℕ); omega

/-- The key buffers after the run are the reference's. -/
theorem final_8 (c : Dev nD) : (dats m 0 c).arrAt 8 (cfgs 0).N
    = val_main_v9 (F := Ideal) (m ((c : Thread nD τ).loc main_arg0)) (m ((c : Thread nD τ).loc main_arg1)) := by
  refine (dats m 0 c).arrAt_eq_of_covers 8 _ (by decide +kernel) fun t hf y => ?_
  blk_simp
  rw [after0_8, outs_8]
  exact point_k t.val _ _ _ _ (blk_k m c t) (new_k m c t) y _ (by blk_simp [idx t]; omega) (by blk_simp [idx t]) (by blk_simp [idx t])

/-- The stored value buffers are the reference's where the buffers and the new columns they are made of are its. -/
theorem point_v (t : ℕ) (x3 : Vec Ideal S128x256 .bf16) (v : Vec Ideal S16x256x128 .f32) (z : FVec Ideal S1024x8704 .bf16) (cache : FVec Ideal S128x128x4x64 .f32)
    (hv : ∀ (y : S16x256x128.Idx) (i : S128x128x4x64.Idx), (i 0 : ℕ) = 16 * t + y 0 → (i 1 : ℕ) = y 2 → (i 2 : ℕ) = (y 1 : ℕ) / 64 → (i 3 : ℕ) = (y 1 : ℕ) % 64 → v y = cache i)
    (hn : ∀ (y : S128x256.Idx) (i : S1024x8704.Idx), (i 0 : ℕ) = 128 * t + y 0 → (i 1 : ℕ) = 8448 + (y 1 : ℕ) → x3 y = z i)
    (y : S16x256x128.Idx) (i : S128x256x128.Idx) (h0 : (i 0 : ℕ) = 16 * t + y 0) (h1 : (i 1 : ℕ) = y 1) (h2 : (i 2 : ℕ) = y 2) :
    slidAt x3 v y = val_main_v12 (F := Ideal) z cache i := by
  pointwise [val_main_v12, val_main_v11, val_main_v10, val_main_v6, val_main_v4, val_main_v3, val_main_v0]
  unfold slidAt
  by_cases h : 8 + (y 2 : ℕ) < 128
  · refine (dif_pos h).trans (Eq.trans ?_ (dif_pos (by rw [h2]; exact h)).symm)
    refine hv _ _ ?_ ?_ ?_ ?_
    · exact h0
    · show 8 + (i 2 : ℕ) = 8 + (y 2 : ℕ); omega
    · show (i 1 : ℕ) / 64 = (y 1 : ℕ) / 64; rw [h1]
    · show (i 1 : ℕ) % 64 = (y 1 : ℕ) % 64; rw [h1]
  · refine (dif_neg h).trans (Eq.trans ?_ (dif_neg (by rw [h2]; exact h)).symm)
    refine hn _ _ ?_ ?_
    · show (i 0 : ℕ) * 8 + (8 + (i 2 : ℕ) - 128) = 128 * t + (8 * (y 0 : ℕ) + (8 + (y 2 : ℕ) - 128)); omega
    · show 8448 + (i 1 : ℕ) = 8448 + (y 1 : ℕ); omega

/-- The value buffers after the run are the reference's. -/
theorem final_9 (c : Dev nD) : (dats m 0 c).arrAt 9 (cfgs 0).N
    = val_main_v12 (F := Ideal) (m ((c : Thread nD τ).loc main_arg0)) (m ((c : Thread nD τ).loc main_arg2)) := by
  refine (dats m 0 c).arrAt_eq_of_covers 9 _ (by decide +kernel) fun t hf y => ?_
  blk_simp
  rw [after0_9, outs_9]
  exact point_v t.val _ _ _ _ (blk_v m c t) (new_v m c t) y _ (by blk_simp [idx t]; omega) (by blk_simp [idx t]) (by blk_simp [idx t])

end Cert.Proof.SlideValue

end
-- ==== Proof.RmsNorm.lean ====
module

public import Idealize.ShloMosaic.Lib.Pointwise

@[expose] public section

noncomputable section

namespace Cert.Proof

open Idealize.ShloMosaic

/-- An entry `x` of a row of 2048, divided by the row's root mean square (with 1e-6 added to the mean square) and
    multiplied by its gain. The two bit patterns are the float words of 2048 and of 1e-6. -/
def normed (row : Fin 2048 → EReal) (x gain : EReal) : EReal :=
  x * Ideal.rsqrt (Ideal.div (∑ k : Fin 2048, row k * row k) (Ideal.ofBits FTy.f32 1157627904#32)
    + Ideal.ofBits FTy.f32 897988541#32) * gain

end Cert.Proof

end
-- ==== Proof.MixSampleValue.lean ====
module

public import proofs.«01_k».proof.Proof.Gen.MixSampleIdeal.Frame
public import proofs.«01_k».proof.Proof.RmsNorm
public import proofs.«01_k».proof.Proof.Gen.MixSampleReferenceIdeal.Read
public import Idealize.ShloMosaic.Lib.Pointwise
public import Idealize.ShloMosaic.Lib.Pipeline.ValueKit

@[expose] public section

set_option maxRecDepth 16384

noncomputable section

namespace Cert.Proof.MixSampleValue

open Cert.MixSampleIdeal Cert.MixSampleIdeal.Gen
open Idealize.ShloMosaic Idealize.ShloMosaic.TcCoe Idealize.ShloMosaic.Tactic Idealize.SL.Sem
open Idealize.ShloMosaic.Pipeline (Dat)
open Cert.MixSampleReferenceIdeal.Read

/-! # The sample group's mixing kernel gives the reference's results

A point works on 32 sequences of eight rows. It lays out, for each, the two rows of the given state and then the eight rows
of the product in a scratch buffer, and reads the convolution's earlier rows and the new state from there. -/

variable (m : (ℓ : Loc nD τ sig) → Buf (Elt Ideal) ℓ)

/-- The blocks of the windows at a point. -/
theorem idx : ∀ t : Fin cfg0.N, win0_0.index t = ![t.val, 4] ∧ win0_1.index t = ![t.val, 5] ∧ win0_2.index t = ![t.val, 6]
    ∧ win0_3.index t = ![t.val, 0, 0] ∧ win0_4.index t = ![0, 0] ∧ win0_5.index t = ![t.val, 0] ∧ win0_6.index t = ![t.val, 0]
    ∧ win0_7.index t = ![t.val, 1] ∧ win0_8.index t = ![t.val, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0, 0] ∧ t.val < 4 :=
  (by decide +kernel : ∀ t : Fin grid0.N, _)

/-! The blocks of `z` a point reads: three of 1024 columns and the two gates' of 2048. -/

/-- The convolution's output gate, -/
theorem z_b (c : Dev nD) (t : Fin cfg0.N) (r : Fin 256) (x : Fin 1024) (n : Fin 1024) (k : Fin 8704) (h0 : (n : ℕ) = t.val * 256 + r)
    (h1 : (k : ℕ) = 4096 + x) : X0_0 m c t (ix2 r x) = (m ((c : Thread nD τ).loc main_arg0)) (ix2 n k) := by
  unfold X0_0 Pipeline.Window.fill
  rw [dif_pos (moved0_0 t _)]
  blk_point [iblk, V, idx t]

/-- its input gate, -/
theorem z_c (c : Dev nD) (t : Fin cfg0.N) (r : Fin 256) (x : Fin 1024) (n : Fin 1024) (k : Fin 8704) (h0 : (n : ℕ) = t.val * 256 + r)
    (h1 : (k : ℕ) = 5120 + x) : X0_1 m c t (ix2 r x) = (m ((c : Thread nD τ).loc main_arg0)) (ix2 n k) := by
  unfold X0_1 Pipeline.Window.fill
  rw [dif_pos (moved0_1 t _)]
  blk_point [iblk, V, idx t]

/-- its input, -/
theorem z_h (c : Dev nD) (t : Fin cfg0.N) (r : Fin 256) (x : Fin 1024) (n : Fin 1024) (k : Fin 8704) (h0 : (n : ℕ) = t.val * 256 + r)
    (h1 : (k : ℕ) = 6144 + x) : X0_2 m c t (ix2 r x) = (m ((c : Thread nD τ).loc main_arg0)) (ix2 n k) := by
  unfold X0_2 Pipeline.Window.fill
  rw [dif_pos (moved0_2 t _)]
  blk_point [iblk, V, idx t]

/-- the convolution's gate in the mix -/
theorem z_gc (c : Dev nD) (t : Fin cfg0.N) (r : Fin 256) (x : Fin 2048) (n : Fin 1024) (k : Fin 8704) (h0 : (n : ℕ) = t.val * 256 + r)
    (h1 : (k : ℕ) = 0 + x) : X0_6 m c t (ix2 r x) = (m ((c : Thread nD τ).loc main_arg0)) (ix2 n k) := by
  unfold X0_6 Pipeline.Window.fill
  rw [dif_pos (moved0_6 t _)]
  blk_point [iblk, V, idx t]

/-- and the attention's. -/
theorem z_ga (c : Dev nD) (t : Fin cfg0.N) (r : Fin 256) (x : Fin 2048) (n : Fin 1024) (k : Fin 8704) (h0 : (n : ℕ) = t.val * 256 + r)
    (h1 : (k : ℕ) = 2048 + x) : X0_7 m c t (ix2 r x) = (m ((c : Thread nD τ).loc main_arg0)) (ix2 n k) := by
  unfold X0_7 Pipeline.Window.fill
  rw [dif_pos (moved0_7 t _)]
  blk_point [iblk, V, idx t]

/-- Row `p` of sequence `b` in the scratch buffer, from the sixth: two rows of state, then the product's. -/
def kept (st : Vec Ideal S32x2x1024 .f32) (x1 x2 : Vec Ideal S256x1024 .bf16) (b : Fin 32) (p : ℕ) (hp : p < 16) (k : Fin 1024) : EReal :=
  if h : p < 8 then st (ix3 b ⟨p - 6, by omega⟩ k)
  else x1 (ix2 ⟨8 * b.val + (p - 8), by omega⟩ k) * x2 (ix2 ⟨8 * b.val + (p - 8), by omega⟩ k)

/-- What the scratch buffer holds after its two stores. -/
theorem scratch_canon (st : Vec Ideal S32x2x1024 .f32) (x1 x2 : Vec Ideal S256x1024 .bf16) (z : S32x16x1024.Idx) (b : Fin 32) (p : ℕ)
    (hp : p < 16) (k : Fin 1024) (z0 : (z 0 : ℕ) = b) (z1 : (z 1 : ℕ) = p) (z2 : (z 2 : ℕ) = k) (hp6 : 6 ≤ p) :
    View.canon (Val := Elt Ideal) (s := S32x16x1024) (e := .f32)
      [⟨Rect.unit ![0, 8, 0] ![32, 8, 1024] inb_S32x16x1024_S32x8x1024_0_8_0, k0_pay4 x1 x2⟩,
        ⟨Rect.unit ![0, 6, 0] ![32, 2, 1024] inb_S32x16x1024_S32x2x1024_0_6_0, k0_pay3 st⟩] z
      = kept st x1 x2 b p hp k := by
  refine View.canon_eq_of_allAt (Val := Elt Ideal) _ z _ ?_ ?_
  · by_cases h : p < 8
    · refine ⟨_, List.mem_cons_of_mem _ List.mem_cons_self, (Rect.mem_set_unit (s := S32x16x1024) (inb := inb_S32x16x1024_S32x2x1024_0_6_0)).mpr fun a => ?_⟩
      fin_cases a <;> dsimp <;> omega
    · refine ⟨_, List.mem_cons_self, (Rect.mem_set_unit (s := S32x16x1024) (inb := inb_S32x16x1024_S32x8x1024_0_8_0)).mpr fun a => ?_⟩
      fin_cases a <;> dsimp <;> omega
  · refine View.allAt_cons_unit _ _ _ _ _ (fun x hx => ?_) (View.allAt_cons_unit _ _ _ _ _ (fun x hx => ?_) (View.allAt_nil _ _))
    all_goals
      have e0 := hx 0
      have e1 := hx 1
      have e2 := hx 2
      dsimp at e0 e1 e2
    · have hx1 : (x 1 : ℕ) < 8 := (x 1).isLt
      rw [kept, dif_neg (by omega)]
      pointwise [k0_pay4, k0_pay2]
      rw [show (⟨(x 0).val * 8 + (x 1).val, by omega⟩ : Fin 256) = ⟨8 * b.val + (p - 8), by omega⟩ from Fin.ext (by dsimp only; omega), show x 2 = k from Fin.ext (by omega)]
    · have hx1 : (x 1 : ℕ) < 2 := (x 1).isLt
      rw [kept, dif_pos (by omega)]
      pointwise [k0_pay3]
      exact congrArg st (funext fun a => by fin_cases a <;> exact Fin.ext (by dsimp; omega))

/-- What a read of the scratch buffer from row `o` gives after its two stores. -/
theorem scratch_at (st : Vec Ideal S32x2x1024 .f32) (x1 x2 : Vec Ideal S256x1024 .bf16) (o n : ℕ) (ho : 6 ≤ o)
    (inb : ∀ a, (![0, o, 0] : Fin 3 → Nat) a + (![32, n, 1024] : Fin 3 → Nat) a ≤ S32x16x1024.size a)
    (j : (Rect.unit (s := S32x16x1024) ![0, o, 0] ![32, n, 1024] inb).shape.Idx) (b : Fin 32) (p : ℕ) (hp : p < 16) (k : Fin 1024)
    (hb : (j 0 : ℕ) = b) (hj : o + (j 1 : ℕ) = p) (hk : (j 2 : ℕ) = k) :
    (View.whole cc0_scratch0).readCov (Val := Elt Ideal)
      [⟨Rect.unit ![0, 8, 0] ![32, 8, 1024] inb_S32x16x1024_S32x8x1024_0_8_0, k0_pay4 x1 x2⟩,
        ⟨Rect.unit ![0, 6, 0] ![32, 2, 1024] inb_S32x16x1024_S32x2x1024_0_6_0, k0_pay3 st⟩]
      (Rect.unit ![0, o, 0] ![32, n, 1024] inb).toLoadRect j = kept st x1 x2 b p hp k := by
  rw [View.readCov_eq_canon']
  refine scratch_canon st x1 x2 _ b p hp k ?_ ?_ ?_ (by omega)
  · rw [← hb]; change 0 + 1 * (j 0 : ℕ) = _; omega
  · rw [← hj]; change o + 1 * (j 1 : ℕ) = _; omega
  · rw [← hk]; change 0 + 1 * (j 2 : ℕ) = _; omega

/-- Row `q` of the ten of sequence `b`: two rows of state, then the product's eight. -/
def padded (z : FVec Ideal Cert.MixSampleReferenceIdeal.S1024x8704 .bf16) (s : FVec Ideal Cert.MixSampleReferenceIdeal.S128x2x1024 .f32)
    (b : Fin 128) (q : ℕ) (hq : q < 10) (k : Fin 1024) : EReal :=
  if h : q < 2 then s (ix3 b ⟨q, h⟩ k)
  else z (ix2 ⟨b.val * 8 + (q - 2), by omega⟩ ⟨5120 + k.val, by omega⟩) * z (ix2 ⟨b.val * 8 + (q - 2), by omega⟩ ⟨6144 + k.val, by omega⟩)

/-- The rows a point keeps are the reference's. -/
theorem kept_eq (c : Dev nD) (t : Fin cfg0.N) (b : Fin 32) (B : Fin 128) (p q : ℕ) (hp : p < 16) (hq : q < 10) (k : Fin 1024)
    (hB : (B : ℕ) = t.val * 32 + b) (h : p = q + 6) :
    kept (iblk m c 3 t) (X0_1 m c t) (X0_2 m c t) b p hp k = padded (m ((c : Thread nD τ).loc main_arg0)) (m ((c : Thread nD τ).loc main_arg1)) B q hq k := by
  unfold kept padded
  by_cases hq2 : q < 2
  · refine (dif_pos (by omega)).trans (Eq.trans ?_ (dif_pos hq2).symm)
    blk_point [iblk, V, idx t]
  · refine (dif_neg (by omega)).trans (Eq.trans ?_ (dif_neg hq2).symm)
    refine congrArg₂ (· * ·) (z_c m c _ _ _ _ _ ?_ rfl) (z_h m c _ _ _ _ _ ?_ rfl) <;>
    · dsimp only; omega

/-- An entry of the convolution's branch from the blocks that the kernel reads, -/
def convAt (v0 v2 v15 : Vec Ideal S256x1024 .bf16) (u1 u2 : Vec Ideal S32x8x1024 .f32) (w0 w1 w2 : Vec Ideal S1x1024 .f32)
    (v34 : Vec Ideal S1024x2048 .bf16) (r : Fin 256) (x : Fin 2048) : EReal :=
  ∑ k : Fin 1024, v15 (ix2 r k) * (((w0 (ix2 0 k) * u2 (ix3 ⟨r.val / 8, by omega⟩ ⟨r.val % 8, by omega⟩ k))
    + w1 (ix2 0 k) * u1 (ix3 ⟨r.val / 8, by omega⟩ ⟨r.val % 8, by omega⟩ k))
    + w2 (ix2 0 k) * (v0 (ix2 r k) * v2 (ix2 r k))) * v34 (ix2 k x)

/-- and of the attention's. -/
def attnAt (v36 : Vec Ideal S256x1024 .bf16) (v37 : Vec Ideal S1024x2048 .bf16) (r : Fin 256) (x : Fin 2048) : EReal :=
  ∑ k : Fin 1024, v36 (ix2 r k) * v37 (ix2 k x)

/-- The kernel's mixed rows: the residual row plus the gated branches projected. -/
theorem pay8_apply (v0 v2 v15 : Vec Ideal S256x1024 .bf16) (u1 u2 : Vec Ideal S32x8x1024 .f32) (w0 w1 w2 : Vec Ideal S1x1024 .f32)
    (v34 v37 : Vec Ideal S1024x2048 .bf16) (v36 : Vec Ideal S256x1024 .bf16) (v39 v43 : Vec Ideal S256x2048 .bf16)
    (v48 : Vec Ideal S256x2048 .f32) (v50 : Vec Ideal S2048x2048 .bf16) (y : S256x2048.Idx) :
    k0_pay8 (F := Ideal) (k0_pay2 v0 v2) v15 (k0_pay5 u1) (k0_pay6 u2 w0) (k0_pay7 w1) w2 v34 v36 v37 v39 v43 v48 v50 y
      = (v48 y + ∑ x : Fin 2048, (Ideal.logistic (v39 (ix2 (y 0) x)) * convAt v0 v2 v15 u1 u2 w0 w1 w2 v34 (y 0) x
          + Ideal.logistic (v43 (ix2 (y 0) x)) * attnAt v36 v37 (y 0) x) * v50 (ix2 x (y 1)) : EReal) := by
  pointwise [k0_pay8, k0_pay2, k0_pay5, k0_pay6, k0_pay7, convAt, attnAt]

/-- The reference's convolution branch, -/
theorem ref_branch_apply (z : FVec Ideal Cert.MixSampleReferenceIdeal.S1024x8704 .bf16) (s : FVec Ideal Cert.MixSampleReferenceIdeal.S128x2x1024 .f32)
    (x4 : FVec Ideal Cert.MixSampleReferenceIdeal.S3x1024 .f32) (x6 : FVec Ideal Cert.MixSampleReferenceIdeal.S1024x2048 .bf16) (i : Cert.MixSampleReferenceIdeal.S1024x2048.Idx) :
    val_main_v33 (F := Ideal) z s x4 x6 i
      = (∑ k : Fin 1024, z (ix2 (i 0) ⟨4096 + k.val, by omega⟩)
          * (((x4 (ix2 0 k) * padded z s ⟨(i 0).val / 8, by have : (i 0).val < 1024 := (i 0).isLt; omega⟩ ((i 0).val % 8) (by omega) k)
          + x4 (ix2 1 k) * padded z s ⟨(i 0).val / 8, by have : (i 0).val < 1024 := (i 0).isLt; omega⟩ (1 + (i 0).val % 8) (by omega) k)
          + x4 (ix2 2 k) * (z (ix2 (i 0) ⟨5120 + k.val, by omega⟩) * z (ix2 (i 0) ⟨6144 + k.val, by omega⟩))) * x6 (ix2 k (i 1)) : EReal) := by
  pointwise [val_main_v33, val_main_v32, val_main_v31, val_main_v30, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0, padded]

/-- its attention branch -/
theorem ref_attn_apply (a : FVec Ideal Cert.MixSampleReferenceIdeal.S1024x1024 .bf16) (w : FVec Ideal Cert.MixSampleReferenceIdeal.S1024x2048 .bf16)
    (i : Cert.MixSampleReferenceIdeal.S1024x2048.Idx) : val_main_v36 (F := Ideal) a w i = (∑ k : Fin 1024, a (ix2 (i 0) k) * w (ix2 k (i 1)) : EReal) := by
  pointwise [val_main_v36, val_main_v35, val_main_v34]

/-- and its mixed rows. -/
theorem ref_h_apply (z : FVec Ideal Cert.MixSampleReferenceIdeal.S1024x8704 .bf16) (s : FVec Ideal Cert.MixSampleReferenceIdeal.S128x2x1024 .f32)
    (at' : FVec Ideal Cert.MixSampleReferenceIdeal.S1024x1024 .bf16) (x3 : FVec Ideal Cert.MixSampleReferenceIdeal.S1024x2048 .f32) (x4 : FVec Ideal Cert.MixSampleReferenceIdeal.S3x1024 .f32)
    (x6 x7 : FVec Ideal Cert.MixSampleReferenceIdeal.S1024x2048 .bf16) (x8 : FVec Ideal Cert.MixSampleReferenceIdeal.S2048x2048 .bf16) (i : Cert.MixSampleReferenceIdeal.S1024x2048.Idx) :
    val_main_v54 (F := Ideal) z s at' x3 x4 x6 x7 x8 i
      = (x3 i + ∑ k : Fin 2048, (Ideal.logistic (z (ix2 (i 0) ⟨k.val, by omega⟩)) * val_main_v33 (F := Ideal) z s x4 x6 (ix2 (i 0) k)
          + Ideal.logistic (z (ix2 (i 0) ⟨2048 + k.val, by omega⟩)) * val_main_v36 (F := Ideal) at' x7 (ix2 (i 0) k)) * x8 (ix2 k (i 1)) : EReal) := by
  pointwise [val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v2, val_main_v1, val_main_v0, val_main_cst, val_main_cst_0, val_main_cst_1, val_main_cst_2]
  rfl

/-- The rows of the scratch buffer from `o` that a point reads back. -/
def readBack (c : Dev nD) (t : Fin cfg0.N) (o n : ℕ)
    (inb : ∀ a, (![0, o, 0] : Fin 3 → Nat) a + (![32, n, 1024] : Fin 3 → Nat) a ≤ S32x16x1024.size a) : Vec Ideal ⟨3, ![32, n, 1024]⟩ .f32 :=
  (View.whole cc0_scratch0).readCov (Val := Elt Ideal)
    [⟨Rect.unit ![0, 8, 0] ![32, 8, 1024] inb_S32x16x1024_S32x8x1024_0_8_0, k0_pay4 (X0_1 m c t) (X0_2 m c t)⟩,
      ⟨Rect.unit ![0, 6, 0] ![32, 2, 1024] inb_S32x16x1024_S32x2x1024_0_6_0, k0_pay3 (iblk m c 3 t)⟩]
    (Rect.unit (s := S32x16x1024) ![0, o, 0] ![32, n, 1024] inb).toLoadRect

/-- Row `a` of the convolution's weights. -/
def weightRow (c : Dev nD) (t : Fin cfg0.N) (a : ℕ)
    (inb : ∀ d, (![a, 0] : Fin 2 → Nat) d + (![1, 1024] : Fin 2 → Nat) d ≤ S3x1024.size d) : Vec Ideal S1x1024 .f32 :=
  View.ld (iblk m c 4 t) (Rect.unit (s := S3x1024) ![a, 0] ![1, 1024] inb)

/-- The rows a point mixes. -/
def mixed (c : Dev nD) (t : Fin cfg0.N) : FVec Ideal S256x2048 .f32 :=
  k0_pay8 (F := Ideal) (k0_pay2 (X0_1 m c t) (X0_2 m c t)) (X0_0 m c t)
    (k0_pay5 (readBack m c t 7 8 inb_S32x16x1024_S32x8x1024_0_7_0))
    (k0_pay6 (readBack m c t 6 8 inb_S32x16x1024_S32x8x1024_0_6_0) (weightRow m c t 0 inb_S3x1024_S1x1024_0_0))
    (k0_pay7 (weightRow m c t 1 inb_S3x1024_S1x1024_1_0)) (weightRow m c t 2 inb_S3x1024_S1x1024_2_0)
    (iblk m c 10 t) (iblk m c 5 t) (iblk m c 11 t) (X0_6 m c t) (X0_7 m c t) (iblk m c 8 t) (iblk m c 12 t)

/-- What a point leaves as the mixed rows, -/
theorem outs_h (c : Dev nD) (t : Fin cfg0.N) : (outsAt0 m c t).1 = mixed m c t := by
  funext y
  unfold outsAt0
  dsimp only
  unfold out0_A_13
  frame_out
  rfl

/-- and as the state. -/
theorem outs_st (c : Dev nD) (t : Fin cfg0.N) : (outsAt0 m c t).2.2 = readBack m c t 14 2 inb_S32x16x1024_S32x2x1024_0_14_0 := by
  funext y
  unfold outsAt0
  dsimp only
  unfold out0_A_15
  frame_out
  rfl

/-- What is read back is a row of the reference's ten. -/
theorem readBack_apply (c : Dev nD) (t : Fin cfg0.N) (o n : ℕ) (ho : 6 ≤ o)
    (inb : ∀ a, (![0, o, 0] : Fin 3 → Nat) a + (![32, n, 1024] : Fin 3 → Nat) a ≤ S32x16x1024.size a) (b : Fin 32) (r : Fin n) (k : Fin 1024)
    (B : Fin 128) (q : ℕ) (hq : q < 10) (hB : (B : ℕ) = t.val * 32 + b) (h : o + r.val = q + 6) :
    readBack m c t o n inb (ix3 b r k) = padded (m ((c : Thread nD τ).loc main_arg0)) (m ((c : Thread nD τ).loc main_arg1)) B q hq k :=
  (scratch_at _ _ _ o n ho inb _ b (q + 6) (by omega) k rfl h rfl).trans (kept_eq m c t b B (q + 6) q (by omega) hq k hB rfl)

theorem weightRow_apply (c : Dev nD) (t : Fin cfg0.N) (a : ℕ) (ha : a < 3)
    (inb : ∀ d, (![a, 0] : Fin 2 → Nat) d + (![1, 1024] : Fin 2 → Nat) d ≤ S3x1024.size d) (k : Fin 1024) :
    weightRow m c t a inb (ix2 0 k) = (m ((c : Thread nD τ).loc main_arg4)) (ix2 ⟨a, ha⟩ k) := by
  unfold weightRow
  blk_point [iblk, V, idx t]

/-- A block of the convolution's branch is the reference's. -/
theorem conv_point (c : Dev nD) (t : Fin cfg0.N) (r : Fin 256) (x : Fin 2048) (i : Cert.MixSampleReferenceIdeal.S1024x2048.Idx)
    (h0 : (i 0 : ℕ) = t.val * 256 + r) (h1 : (i 1 : ℕ) = x) :
    convAt (X0_1 m c t) (X0_2 m c t) (X0_0 m c t) (readBack m c t 7 8 inb_S32x16x1024_S32x8x1024_0_7_0)
        (readBack m c t 6 8 inb_S32x16x1024_S32x8x1024_0_6_0) (weightRow m c t 0 inb_S3x1024_S1x1024_0_0)
        (weightRow m c t 1 inb_S3x1024_S1x1024_1_0) (weightRow m c t 2 inb_S3x1024_S1x1024_2_0) (iblk m c 10 t) r x
      = val_main_v33 (F := Ideal) (m ((c : Thread nD τ).loc main_arg0)) (m ((c : Thread nD τ).loc main_arg1)) (m ((c : Thread nD τ).loc main_arg4)) (m ((c : Thread nD τ).loc main_arg6)) i := by
  unfold convAt
  rw [ref_branch_apply]
  refine Finset.sum_congr rfl fun k _ => congrArg₂ (· * ·) (congrArg₂ (· * ·) (z_b m c _ _ _ _ _ h0 rfl)
    (congrArg₂ (· + ·) (congrArg₂ (· + ·) (congrArg₂ (· * ·) (weightRow_apply m c t 0 (by decide) _ k) ?_)
      (congrArg₂ (· * ·) (weightRow_apply m c t 1 (by decide) _ k) ?_))
      (congrArg₂ (· * ·) (weightRow_apply m c t 2 (by decide) _ k) (congrArg₂ (· * ·) (z_c m c _ _ _ _ _ h0 rfl) (z_h m c _ _ _ _ _ h0 rfl)))))
    (by blk_point [iblk, V, idx t])
  · refine readBack_apply m c t 6 8 (by decide) _ _ _ k _ _ _ ?_ ?_ <;>
    · dsimp only; omega
  · refine readBack_apply m c t 7 8 (by decide) _ _ _ k _ _ _ ?_ ?_ <;>
    · dsimp only; omega

/-- A block of the attention's branch is the reference's. -/
theorem attn_point (c : Dev nD) (t : Fin cfg0.N) (r : Fin 256) (x : Fin 2048) (i : Cert.MixSampleReferenceIdeal.S1024x2048.Idx)
    (h0 : (i 0 : ℕ) = t.val * 256 + r) (h1 : (i 1 : ℕ) = x) :
    attnAt (iblk m c 5 t) (iblk m c 11 t) r x = val_main_v36 (F := Ideal) (m ((c : Thread nD τ).loc main_arg2)) (m ((c : Thread nD τ).loc main_arg7)) i := by
  unfold attnAt
  rw [ref_attn_apply]
  refine Finset.sum_congr rfl fun k _ => congrArg₂ (· * ·) (by blk_point [iblk, V, idx t]) (by blk_point [iblk, V, idx t])

/-- A block of the mixed rows is the reference's. -/
theorem h_point (c : Dev nD) (t : Fin cfg0.N) (y : S256x2048.Idx) (i : Cert.MixSampleReferenceIdeal.S1024x2048.Idx)
    (h0 : (i 0 : ℕ) = t.val * 256 + y 0) (h1 : (i 1 : ℕ) = y 1) :
    mixed m c t y = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) i := by
  unfold mixed
  rw [pay8_apply, ref_h_apply]
  exact congrArg₂ (· + ·) (by blk_point [iblk, V, idx t]) (Finset.sum_congr rfl fun x _ => congrArg₂ (· * ·) (congrArg₂ (· + ·)
    (congrArg₂ (· * ·) (congrArg Ideal.logistic (z_gc m c _ _ _ _ _ h0 (by dsimp only; omega))) (conv_point m c t (y 0) x (ix2 (i 0) x) h0 rfl))
    (congrArg₂ (· * ·) (congrArg Ideal.logistic (z_ga m c _ _ _ _ _ h0 rfl)) (attn_point m c t (y 0) x (ix2 (i 0) x) h0 rfl))) (by blk_point [iblk, V, idx t]))

/-- The reference normalises the mixed rows, -/
theorem ref_hn_apply (z : FVec Ideal Cert.MixSampleReferenceIdeal.S1024x8704 .bf16) (s : FVec Ideal Cert.MixSampleReferenceIdeal.S128x2x1024 .f32)
    (at' : FVec Ideal Cert.MixSampleReferenceIdeal.S1024x1024 .bf16) (x3 : FVec Ideal Cert.MixSampleReferenceIdeal.S1024x2048 .f32) (x4 : FVec Ideal Cert.MixSampleReferenceIdeal.S3x1024 .f32) (x5 : FVec Ideal Cert.MixSampleReferenceIdeal.S1x2048 .f32)
    (x6 x7 : FVec Ideal Cert.MixSampleReferenceIdeal.S1024x2048 .bf16) (x8 : FVec Ideal Cert.MixSampleReferenceIdeal.S2048x2048 .bf16) (i : Cert.MixSampleReferenceIdeal.S1024x2048.Idx) :
    val_main_v67 (F := Ideal) z s at' x3 x4 x5 x6 x7 x8 i
      = normed (fun k => val_main_v54 (F := Ideal) z s at' x3 x4 x6 x7 x8 (ix2 (i 0) k)) (val_main_v54 (F := Ideal) z s at' x3 x4 x6 x7 x8 i) (x5 (ix2 0 (i 1))) := by
  pointwise [val_main_v67, val_main_v66, val_main_v65, val_main_v64, val_main_v63, val_main_v62, val_main_v61, val_main_v60, val_main_v59, val_main_v58, val_main_v57, val_main_v56, val_main_v55, val_main_cst_3, val_main_cst_4, val_main_cst_5, normed]

/-- The reference's new state: the last two of the ten rows. -/
theorem ref_st_apply (z : FVec Ideal Cert.MixSampleReferenceIdeal.S1024x8704 .bf16) (s : FVec Ideal Cert.MixSampleReferenceIdeal.S128x2x1024 .f32)
    (i : Cert.MixSampleReferenceIdeal.S128x2x1024.Idx) : val_main_v29 (F := Ideal) z s i
      = padded z s (i 0) (8 + (i 1).val) (by have : (i 1).val < 2 := (i 1).isLt; omega) (i 2) := by
  pointwise [val_main_v29, val_main_v8, val_main_v7, val_main_v6, val_main_v5, val_main_v4, val_main_v3, val_main_v0, padded]

/-- as the kernel does, whatever it mixes: -/
theorem pay1_apply (v4 : FVec Ideal S256x1024 .f32) (v15 : Vec Ideal S256x1024 .bf16) (v17 v22 v24 : FVec Ideal S256x1024 .f32)
    (v27 : Vec Ideal S1x1024 .f32) (v34 : Vec Ideal S1024x2048 .bf16) (v36 : Vec Ideal S256x1024 .bf16) (v37 : Vec Ideal S1024x2048 .bf16)
    (v39 v43 : Vec Ideal S256x2048 .bf16) (v48 : Vec Ideal S256x2048 .f32) (v50 : Vec Ideal S2048x2048 .bf16) (g : Vec Ideal S1x2048 .f32)
    (y : S256x2048.Idx) :
    k0_pay1 (F := Ideal) (k0_pay8 v4 v15 v17 v22 v24 v27 v34 v36 v37 v39 v43 v48 v50) g (k0_pay9 v4 v15 v17 v22 v24 v27 v34 v36 v37 v39 v43 v48 v50) k0_pay10 y
      = normed (fun k => k0_pay8 (F := Ideal) v4 v15 v17 v22 v24 v27 v34 v36 v37 v39 v43 v48 v50 (ix2 (y 0) k))
          (k0_pay8 (F := Ideal) v4 v15 v17 v22 v24 v27 v34 v36 v37 v39 v43 v48 v50 y) (g (ix2 0 (y 1))) := by
  pointwise [k0_pay1, k0_pay9, k0_pay10, normed]

/-- what a point leaves as the normalised rows. -/
theorem outs_hn (c : Dev nD) (t : Fin cfg0.N) (y : S256x2048.Idx) : (outsAt0 m c t).2.1 y
    = normed (fun k => mixed m c t (ix2 (y 0) k)) (mixed m c t y) (iblk m c 9 t (ix2 0 (y 1))) := by
  unfold outsAt0
  dsimp only
  unfold out0_A_14
  frame_out
  exact pay1_apply _ _ _ _ _ _ _ _ _ _ _ _ _ _ y

/-- A block of the normalised rows is the reference's. -/
theorem hn_point (c : Dev nD) (t : Fin cfg0.N) (y : S256x2048.Idx) (i : Cert.MixSampleReferenceIdeal.S1024x2048.Idx)
    (h0 : (i 0 : ℕ) = t.val * 256 + y 0) (h1 : (i 1 : ℕ) = y 1) :
    (outsAt0 m c t).2.1 y = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  rw [outs_hn, ref_hn_apply, h_point m c t y i h0 h1]
  have e := fun k : Fin 2048 => h_point m c t (ix2 (y 0) k) (ix2 (i 0) k) h0 rfl
  simp only [e]
  refine congrArg (normed _ _) ?_
  blk_point [iblk, V, idx t]

/-- A block of the new state is the reference's. -/
theorem st_point (c : Dev nD) (t : Fin cfg0.N) (y : S32x2x1024.Idx) (i : Cert.MixSampleReferenceIdeal.S128x2x1024.Idx)
    (h0 : (i 0 : ℕ) = t.val * 32 + y 0) (h1 : (i 1 : ℕ) = y 1) (h2 : (i 2 : ℕ) = y 2) :
    readBack m c t 14 2 inb_S32x16x1024_S32x2x1024_0_14_0 y = val_main_v29 (F := Ideal) (m ((c : Thread nD τ).loc main_arg0)) (m ((c : Thread nD τ).loc main_arg1)) i := by
  have hi : (i 1).val < 2 := (i 1).isLt
  rw [ref_st_apply]
  exact (scratch_at _ _ _ 14 2 (by decide) _ y (y 0) (8 + (i 1).val + 6) (by omega) (i 2) rfl (by omega) h2.symm).trans
    (kept_eq m c t (y 0) (i 0) (8 + (i 1).val + 6) (8 + (i 1).val) (by omega) (by omega) (i 2) h0 rfl)

/-! # The three arrays after the run -/

theorem final_13 (c : Dev nD) : (dats m 0 c).arrAt 13 (cfgs 0).N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  rw [after0_13, outs_h]
  exact h_point m c t y _ (by blk_simp [idx t]) (by blk_simp [idx t])

theorem final_14 (c : Dev nD) : (dats m 0 c).arrAt 14 (cfgs 0).N = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  blk_simp
  rw [after0_14]
  exact hn_point m c t y _ (by blk_simp [idx t]) (by blk_simp [idx t])

theorem final_15 (c : Dev nD) : (dats m 0 c).arrAt 15 (cfgs 0).N = val_main_v29 (F := Ideal) (m ((c : Thread nD τ).loc main_arg0)) (m ((c : Thread nD τ).loc main_arg1)) := by
  refine (dats m 0 c).arrAt_eq_of_covers 15 _ (by decide +kernel) fun t hf y => ?_
  blk_simp
  rw [after0_15, outs_st]
  exact st_point m c t y _ (by blk_simp [idx t]) (by blk_simp [idx t]) (by blk_simp [idx t])

end Cert.Proof.MixSampleValue

end
-- ==== Proof.WholeStore.lean ====
module

public import Idealize.ShloMosaic.Lib.Pipeline.FrameBody
public import Idealize.ShloMosaic.Lib.Pipeline.ValueKit
public import Idealize.ShloMosaic.Lib.Ring
public import Idealize.ShloMosaic.Lib.Tactic

@[expose] public section

noncomputable section

namespace Cert.Proof

open Idealize.ShloMosaic

/-- A store over the whole extent of a view replaces everything there: what is read afterwards is what was
    stored, whatever the view held before. -/
theorem read_after_whole_store {sig : RefSig} {κ : Kind} {sp : Space} {S : Shape} {e : EltTy} {Val : EltTy → Type}
    [∀ e, Nonempty (Val e)] (v : View sig κ sp S e) (f : v.ty.Contents Val) {off : Fin S.rank → Nat}
    (inb : ∀ a, off a + S.size a ≤ S.size a) (h : ∀ a, off a = 0) (w : S.Idx → Val e) :
    v.read Val (v.writes Val f [(⟨Rect.unit off S.size inb, w⟩ : View.Piece Val S e)]) = w := by
  rw [View.read_writes_eq_canon v f]
  · exact View.canon_cons_unit_lit' inb w [] h
  · intro y
    refine ⟨_, List.mem_singleton_self _, ?_⟩
    exact (Rect.mem_set_unit (inb := inb)).mpr fun a => by have := h a; have := (y a).isLt; omega

end Cert.Proof

end
-- ==== Proof.InProjSamplePrelude.lean ====
module

public import proofs.«01_k».proof.Proof.Gen.InProjSampleIdeal.Frame
public import proofs.«01_k».proof.Proof.Gen.InProjSampleIdeal.Skeleton
public import proofs.«01_k».proof.Proof.Gen.InProjSampleIdeal.Loops
public import proofs.«01_k».proof.Proof.WholeStore

@[expose] public section

set_option maxRecDepth 16384

noncomputable section

namespace Cert.Proof.InProjSampleRun

open Cert.InProjSampleIdeal Cert.InProjSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the sample rows' input projection

At its first point the kernel normalises the sample rows into a scratch buffer; at every point it multiplies them
by one block of the weights' columns, four row blocks one after the other, between the steps of the prompt
attention.  Here the body is run at any point, and what each buffer holds afterwards is named, the attention's
output and the attention's own scratch buffers apart, of which nothing is said. -/

theorem off_inb (q : Fin k0_t1_loop.trips) : ∀ a, k0_off1 q a + S256x2048.size a ≤ S1024x2048.size a := by
  have hq : q.val < 4 := Nat.lt_of_lt_of_le q.isLt k0_t1_abs.2.1
  intro a
  rw [k0_off1_eq]
  fin_cases a
  · show 256 * q.val + 256 ≤ 1024; omega
  · show 0 + 2048 ≤ 2048; omega

/-- The rectangle of row block `q`. -/
abbrev rows (q : Fin k0_t1_loop.trips) : Rect S1024x2048 := Rect.unit (k0_off1 q) S256x2048.size (off_inb q)

/-- The stores of the first `k` trips of the normalisation: each row block of `x`, normalised. -/
def normPieces (x : Vec F S1024x2048 .f32) (g : Vec F S1x2048 .f32) : ℕ → List (View.Piece (Elt F) S1024x2048 .bf16)
  | 0 => []
  | k + 1 =>
    if h : k < k0_t1_loop.trips then
      (⟨rows ⟨k, h⟩, k0_pay273 (View.ld x (rows ⟨k, h⟩)) g⟩ : View.Piece (Elt F) S1024x2048 .bf16) :: normPieces x g k
    else normPieces x g k

theorem mem_normPieces (x : Vec F S1024x2048 .f32) (g : Vec F S1x2048 .f32) (q : Fin k0_t1_loop.trips) : ∀ k : ℕ, q.val < k →
    (⟨rows q, k0_pay273 (View.ld x (rows q)) g⟩ : View.Piece (Elt F) S1024x2048 .bf16) ∈ normPieces x g k
  | 0, h => absurd h (Nat.not_lt_zero _)
  | k + 1, h => by
    rw [normPieces]
    split
    next hk =>
      rcases Nat.lt_succ_iff_lt_or_eq.mp h with h' | h'
      · exact List.mem_cons_of_mem _ (mem_normPieces x g q k h')
      · subst h'; exact List.mem_cons_self
    next hk => exact mem_normPieces x g q k (by have := q.isLt; omega)

/-- Four trips there are. -/
theorem trips_eq : k0_t1_loop.trips = 4 := by decide +kernel

/-- The row blocks of all trips cover the rows. -/
theorem normPieces_cover (x : Vec F S1024x2048 .f32) (g : Vec F S1x2048 .f32) (y : S1024x2048.Idx) :
    ∃ p ∈ normPieces x g k0_t1_loop.trips, y ∈ p.1.set := by
  have h0 : (y (0 : Fin 2)).val < 1024 := (y 0).isLt
  have h1 : (y (1 : Fin 2)).val < 2048 := (y 1).isLt
  have hq : (y (0 : Fin 2)).val / 256 < k0_t1_loop.trips := by rw [trips_eq]; omega
  refine ⟨_, mem_normPieces x g ⟨(y (0 : Fin 2)).val / 256, hq⟩ _ hq, ?_⟩
  refine (Rect.mem_set_unit (inb := off_inb _)).mpr fun a => ?_
  rw [k0_off1_eq]
  fin_cases a
  · show 256 * ((y (0 : Fin 2)).val / 256) ≤ (y (0 : Fin 2)).val ∧ (y (0 : Fin 2)).val < 256 * ((y (0 : Fin 2)).val / 256) + 256
    omega
  · show 0 ≤ (y (1 : Fin 2)).val ∧ (y (1 : Fin 2)).val < 0 + 2048
    omega

/-- The sample rows, normalised. -/
def normAll (x : Vec F S1024x2048 .f32) (g : Vec F S1x2048 .f32) : Vec F S1024x2048 .bf16 :=
  View.canon (normPieces x g k0_t1_loop.trips)

/-- What a point finds in the scratch when it comes to the projection: the rows normalised, at the first point by the
    point itself. -/
def rowsAt (i : grid0.Coords) (x : Vec F S1024x2048 .f32) (g : Vec F S1x2048 .f32) (s : Vec F S1024x2048 .bf16) : Vec F S1024x2048 .bf16 :=
  if k0_cond2 i = 1#1 then normAll x g else s

/-- The four stores of a block of the projection, the last first: row blocks `768`, `512`, `256` and `0` of the
    normalised rows `s`, each times the block `w` of the weights. -/
def zPieces (s : Vec F S1024x2048 .bf16) (w : Vec F S2048x512 .bf16) : List (View.Piece (Elt F) S1024x512 .bf16) :=
  [⟨Rect.unit (s := S1024x512) ![768, 0] S256x512.size inb_S1024x512_S256x512_768_0,
      k0_pay687 (View.ld s (Rect.unit (s := S1024x2048) ![768, 0] S256x2048.size inb_S1024x2048_S256x2048_768_0)) w⟩,
    ⟨Rect.unit (s := S1024x512) ![512, 0] S256x512.size inb_S1024x512_S256x512_512_0,
      k0_pay526 (View.ld s (Rect.unit (s := S1024x2048) ![512, 0] S256x2048.size inb_S1024x2048_S256x2048_512_0)) w⟩,
    ⟨Rect.unit (s := S1024x512) ![256, 0] S256x512.size inb_S1024x512_S256x512_256_0,
      k0_pay392 (View.ld s (Rect.unit (s := S1024x2048) ![256, 0] S256x2048.size inb_S1024x2048_S256x2048_256_0)) w⟩,
    ⟨Rect.unit (s := S1024x512) ![0, 0] S256x512.size inb_S1024x512_S256x512_0_0,
      k0_pay336 (View.ld s (Rect.unit (s := S1024x2048) ![0, 0] S256x2048.size inb_S1024x2048_S256x2048_0_0)) w⟩]

/-- The four row blocks cover the block. -/
theorem zPieces_cover (s : Vec F S1024x2048 .bf16) (w : Vec F S2048x512 .bf16) (y : S1024x512.Idx) :
    ∃ p ∈ zPieces s w, y ∈ p.1.set := by
  have h0 : (y (0 : Fin 2)).val < 1024 := (y 0).isLt
  have h1 : (y (1 : Fin 2)).val < 512 := (y 1).isLt
  have key : ∀ (o : ℕ) (inb : ∀ a, (![o, 0] : Fin 2 → ℕ) a + S256x512.size a ≤ S1024x512.size a), o ≤ (y (0 : Fin 2)).val →
      (y (0 : Fin 2)).val < o + 256 → y ∈ (Rect.unit (s := S1024x512) ![o, 0] S256x512.size inb).set := by
    intro o inb ha hb
    refine (Rect.mem_set_unit (s := S1024x512) (inb := inb)).mpr fun a => ?_
    fin_cases a
    · exact ⟨ha, hb⟩
    · exact ⟨Nat.zero_le _, by show (y (1 : Fin 2)).val < 0 + 512; omega⟩
  unfold zPieces
  simp only [List.mem_cons, exists_eq_or_imp, List.not_mem_nil, false_and, exists_false, or_false, exists_eq_left]
  by_cases ha : (y (0 : Fin 2)).val < 256
  · exact .inr (.inr (.inr (key _ _ (Nat.zero_le _) (by omega))))
  by_cases hb : (y (0 : Fin 2)).val < 512
  · exact .inr (.inr (.inl (key _ _ (by omega) (by omega))))
  by_cases hc : (y (0 : Fin 2)).val < 768
  · exact .inr (.inl (key _ _ (by omega) (by omega)))
  · exact .inl (key _ _ (by omega) (by omega))

/-- A block of the projection. -/
def zBlock (s : Vec F S1024x2048 .bf16) (w : Vec F S2048x512 .bf16) : Vec F S1024x512 .bf16 := View.canon (zPieces s w)

/-- The last 128 rows of a block of keys or values: what a sequence's last point keeps of them. -/
def lastRows (x : Vec F S512x256 .bf16) : Vec F S128x256 .bf16 :=
  View.ld x (Rect.unit (s := S512x256) ![384, 0] S128x256.size inb_S512x256_S128x256_384_0)

section Point

variable (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S64x2048 .f32) (harg4 : arg4.IsWhole) (arg5 : Memref sig .tc .vmem S64x2048 .f32) (harg5 : arg5.IsWhole) (arg6 : Memref sig .tc .smem S32x16 .f32) (harg6 : arg6.IsWhole) (arg7 : Memref sig .tc .smem S16 .f32) (harg7 : arg7.IsWhole) (arg8 : Memref sig .tc .vmem S512x1024 .bf16) (harg8 : arg8.IsWhole) (arg9 : Memref sig .tc .vmem S128x256 .bf16) (harg9 : arg9.IsWhole) (arg10 : Memref sig .tc .vmem S512x256 .bf16) (harg10 : arg10.IsWhole) (arg11 : Memref sig .tc .vmem S128x256 .bf16) (harg11 : arg11.IsWhole) (arg12 : Memref sig .tc .vmem S512x256 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1024x2048 .bf16) (harg19 : arg19.IsWhole) (arg20 : Memref sig .tc .vmem S2048x512 .bf16) (harg20 : arg20.IsWhole) (arg21 : Memref sig .tc .vmem S2x2048x128 .f32) (harg21 : arg21.IsWhole) (arg22 : Memref sig .tc .vmem S4x2048x256 .bf16) (harg22 : arg22.IsWhole)

/-- One trip of the normalisation stores one row block, normalised, -/
theorem trip_eq (𝒱 : Variants) (bd : Option 𝒱.V) (k0_h2 : k0_cond2 i = 1#1)
    (X1 : BufTy.Contents (Elt F) arg1.view.ty) (X2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 X1 X2 k
      = [⟨rows k, k0_pay273 (View.ld (arg1.view.read (Elt F) X1) (rows k)) (arg2.view.read (Elt F) X2)⟩] := by
  unfold tripL_k0_t1 trip_k0_t1
  dsimp only
  rw [View.readAt_eq_ld, View.readAt_eq_ld, View.ld_unit_lit' _ _ (by decide)]

/-- and so the trips before `k` store the first `k` of them. -/
theorem trips_norm (𝒱 : Variants) (bd : Option 𝒱.V) (k0_h2 : k0_cond2 i = 1#1)
    (x0 : Vec F S1024x2048 .f32) (x1 : Vec F S1x2048 .f32) (k : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 (harg1.unread x0) (harg2.unread x1) k = normPieces x0 x1 k := by
  induction k with
  | zero => rfl
  | succ k ih =>
    by_cases hk : k < k0_t1_loop.trips
    · rw [pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 k0_h2 (harg1.unread x0) (harg2.unread x1) ⟨k, hk⟩, trip_eq, ih, normPieces,
        dif_pos hk, harg1.read_unread, harg2.read_unread]
      rfl
    · rw [pb_k0_t1]; unfold pb_k0_t1Step; rw [dif_neg hk, ih, normPieces, dif_neg hk]

set_option backward.proofsInPublic true in
set_option maxHeartbeats 3880000 in set_option sl_exec.squeezeSlice true in
/-- The body's beginning: the attention's bias table and the normalised rows at the first point, the conversion of the
    weights' block and of the two side blocks at every point. -/
theorem prelude (hc : ((Scalar.cmpi .ne (Scalar.extui (Scalar.cmpi .eq (BitVec.ofNat 32 (i 0).val) 0#32)) 0#32) = 1#1) ↔ k0_cond2 i = 1#1)
    (x0 : Vec F S1024x2048 .f32) (x1 : Vec F S1x2048 .f32) (x2 : Vec F S2048x512 .f32) (x3 x4 : Vec F S64x2048 .f32) (x5 : Vec F S32x16 .f32)
    (s : Vec F S1024x2048 .bf16) (E : Set ℕ) (K : _ → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg15 fullShare d)
      ∗ (∃ d, owns (c : Thread nD τ) arg16 fullShare d)
      ∗ owns (c : Thread nD τ) arg19 fullShare s
      ∗ (∃ d, owns (c : Thread nD τ) arg20 fullShare d)
      ∗ (∃ d, owns (c : Thread nD τ) arg21 fullShare d)
      ∗ (∀ r, iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg15 fullShare (k0_pay275 x3)
      ∗ owns (c : Thread nD τ) arg16 fullShare (k0_pay276 x4)
      ∗ owns (c : Thread nD τ) arg19 fullShare (rowsAt i x0 x1 s)
      ∗ owns (c : Thread nD τ) arg20 fullShare (k0_pay274 x2)
      ∗ (∃ d, owns (c : Thread nD τ) arg21 fullShare d)) -∗ K r))
    ⊢ wp frame (wpE (defs₀ (F := F)) Variants.none c none) E (k0_part101 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [k0_part101_eq_skeleton]; unfold k0_part101_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d15, %f15, -, H15⟩, ⟨%d16, %f16, -, H16⟩, ⟨%f19, %hf19, H19⟩, ⟨%d20, %f20, -, H20⟩, ⟨%d21, %f21, -, H21⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg19.eq_unread hf19
  by_cases h2 : k0_cond2 i = 1#1
  · have h1 := hc.mpr h2
    rw [show rowsAt i x0 x1 s = normAll x0 x1 from if_pos h2]
    sl_exec (disch := first | sl_exact h1 | sl_exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H15]
    · iexists _; isplitr; swap; · iexact H15
      ipureintro; refine (read_after_whole_store _ _ _ (by decide) _).trans ?_
      (try frame_out) <;> (try rfl)
    isplitl [H16]
    · iexists _; isplitr; swap; · iexact H16
      ipureintro; refine (read_after_whole_store _ _ _ (by decide) _).trans ?_
      (try frame_out) <;> (try rfl)
    isplitl [H19]
    · iexists _; isplitr; swap; · iexact H19
      ipureintro; simp only [trips_norm]; exact View.read_writes_eq_canon _ _ _ (normPieces_cover x0 x1)
    isplitl [H20]
    · iexists _; isplitr; swap; · iexact H20
      ipureintro; refine (read_after_whole_store _ _ _ (by decide) _).trans ?_
      (try frame_out) <;> (try rfl)
    iexists _, _; isplitr; swap; · iexact H21
    ipureintro; rfl
  · have h1 : ¬ _ := fun h => h2 (hc.mp h)
    rw [show rowsAt i x0 x1 s = s from if_neg h2]
    sl_exec (disch := first | sl_exact h1 | sl_exact h2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H15]
    · iexists _; isplitr; swap; · iexact H15
      ipureintro; refine (read_after_whole_store _ _ _ (by decide) _).trans ?_
      (try frame_out) <;> (try rfl)
    isplitl [H16]
    · iexists _; isplitr; swap; · iexact H16
      ipureintro; refine (read_after_whole_store _ _ _ (by decide) _).trans ?_
      (try frame_out) <;> (try rfl)
    isplitl [H19]
    · iexists _; isplitr; · ipureintro; exact harg19.read_unread _
      iexact H19
    isplitl [H20]
    · iexists _; isplitr; swap; · iexact H20
      ipureintro; refine (read_after_whole_store _ _ _ (by decide) _).trans ?_
      (try frame_out) <;> (try rfl)
    iexists _, _; isplitr; swap; · iexact H21
    ipureintro; rfl

end Point

end Cert.Proof.InProjSampleRun

end
-- ==== Proof.InProjSampleRun.lean ====
module

public import proofs.«01_k».proof.Proof.Gen.InProjSampleIdeal.Frame
public import proofs.«01_k».proof.Proof.Gen.InProjSampleIdeal.Skeleton
public import proofs.«01_k».proof.Proof.Gen.InProjSampleIdeal.Loops
public import proofs.«01_k».proof.Proof.InProjSamplePrelude

@[expose] public section

set_option maxRecDepth 16384

noncomputable section

namespace Cert.Proof.InProjSampleRun

open Cert.InProjSampleIdeal Cert.InProjSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole body at one grid point

The beginning is `prelude`; the rest is run here, with what the beginning left.  -/

section Run

variable (c : Dev nD) (i : grid0.Coords) (arg1 : Memref sig .tc .vmem S1024x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S64x2048 .f32) (harg4 : arg4.IsWhole) (arg5 : Memref sig .tc .vmem S64x2048 .f32) (harg5 : arg5.IsWhole) (arg6 : Memref sig .tc .smem S32x16 .f32) (harg6 : arg6.IsWhole) (arg7 : Memref sig .tc .smem S16 .f32) (harg7 : arg7.IsWhole) (arg8 : Memref sig .tc .vmem S512x1024 .bf16) (harg8 : arg8.IsWhole) (arg9 : Memref sig .tc .vmem S128x256 .bf16) (harg9 : arg9.IsWhole) (arg10 : Memref sig .tc .vmem S512x256 .bf16) (harg10 : arg10.IsWhole) (arg11 : Memref sig .tc .vmem S128x256 .bf16) (harg11 : arg11.IsWhole) (arg12 : Memref sig .tc .vmem S512x256 .bf16) (harg12 : arg12.IsWhole) (arg13 : Memref sig .tc .vmem S1024x512 .bf16) (harg13 : arg13.IsWhole) (arg14 : Memref sig .tc .vmem S512x1024 .bf16) (harg14 : arg14.IsWhole) (arg15 : Memref sig .tc .vmem S64x2048 .bf16) (harg15 : arg15.IsWhole) (arg16 : Memref sig .tc .vmem S64x2048 .bf16) (harg16 : arg16.IsWhole) (arg17 : Memref sig .tc .vmem S1x256x128 .f32) (harg17 : arg17.IsWhole) (arg18 : Memref sig .tc .vmem S1x256x128 .f32) (harg18 : arg18.IsWhole) (arg19 : Memref sig .tc .vmem S1024x2048 .bf16) (harg19 : arg19.IsWhole) (arg20 : Memref sig .tc .vmem S2048x512 .bf16) (harg20 : arg20.IsWhole) (arg21 : Memref sig .tc .vmem S2x2048x128 .f32) (harg21 : arg21.IsWhole) (arg22 : Memref sig .tc .vmem S4x2048x256 .bf16) (harg22 : arg22.IsWhole)

set_option backward.proofsInPublic true in
set_option maxHeartbeats 3880000 in set_option sl_exec.squeezeSlice true in
/-- The body at any grid point: the inputs stay as they are, and the outputs but the attention's, and the scratch of
    normalised rows, end at the contents named; the two states' buffers are written at a sequence's last point and kept
    at the others. -/
theorem run (hc : ((Scalar.cmpi .ne (Scalar.extui (Scalar.cmpi .eq (BitVec.ofNat 32 (i 0).val) 0#32)) 0#32) = 1#1) ↔ k0_cond2 i = 1#1)
    (x0 : Vec F S1024x2048 .f32) (x1 : Vec F S1x2048 .f32) (x2 : Vec F S2048x512 .f32) (x3 x4 : Vec F S64x2048 .f32) (x5 : Vec F S32x16 .f32) (x6 : Vec F S16 .f32) (x7 : Vec F S512x1024 .bf16) (x8 : Vec F S128x256 .bf16) (x9 : Vec F S512x256 .bf16) (x10 : Vec F S128x256 .bf16) (x11 : Vec F S512x256 .bf16)
    (y16 y17 : Vec F S1x256x128 .f32) (s : Vec F S1024x2048 .bf16) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ (∃ d, owns (c : Thread nD τ) arg13 fullShare d)
      ∗ (∃ d, owns (c : Thread nD τ) arg14 fullShare d)
      ∗ (∃ d, owns (c : Thread nD τ) arg15 fullShare d)
      ∗ (∃ d, owns (c : Thread nD τ) arg16 fullShare d)
      ∗ owns (c : Thread nD τ) arg17 fullShare y16
      ∗ owns (c : Thread nD τ) arg18 fullShare y17
      ∗ owns (c : Thread nD τ) arg19 fullShare s
      ∗ (∃ d, owns (c : Thread nD τ) arg20 fullShare d)
      ∗ (∃ d, owns (c : Thread nD τ) arg21 fullShare d)
      ∗ (∃ d, owns (c : Thread nD τ) arg22 fullShare d)
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare (zBlock (rowsAt i x0 x1 s) (k0_pay274 x2))
      ∗ (∃ d, owns (c : Thread nD τ) arg14 fullShare d)
      ∗ owns (c : Thread nD τ) arg15 fullShare (k0_pay275 x3)
      ∗ owns (c : Thread nD τ) arg16 fullShare (k0_pay276 x4)
      ∗ owns (c : Thread nD τ) arg17 fullShare (if k0_cond3 i = 1#1 then k0_pay2 (lastRows x9) else y16)
      ∗ owns (c : Thread nD τ) arg18 fullShare (if k0_cond3 i = 1#1 then k0_pay3 (lastRows x11) else y17)
      ∗ owns (c : Thread nD τ) arg19 fullShare (rowsAt i x0 x1 s)
      ∗ (∃ d, owns (c : Thread nD τ) arg20 fullShare d)
      ∗ (∃ d, owns (c : Thread nD τ) arg21 fullShare d)
      ∗ (∃ d, owns (c : Thread nD τ) arg22 fullShare d)) -∗ K ⟨⟩))
    ⊢ wp frame (wpE (defs₀ (F := F)) Variants.none c none) E (cc0_in_proj_sample_attn_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_in_proj_sample_attn_prompt_eq_skeleton]; unfold cc0_in_proj_sample_attn_prompt_skel
  simp only [k0_part216_eq_skeleton]; unfold k0_part216_skel
  rw [bind_assoc, wp_bind]
  iintro ⟨H1, H2, H3, H4, H5, H6, H7, H8, H9, H10, H11, H12, H13, H14, H15, H16, H17, H18, H19, H20, H21, H22, Hk⟩
  iapply (prelude c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x0 x1 x2 x3 x4 x5 s E _)
  isplitl [H1]; · iexact H1
  isplitl [H2]; · iexact H2
  isplitl [H3]; · iexact H3
  isplitl [H4]; · iexact H4
  isplitl [H5]; · iexact H5
  isplitl [H6]; · iexact H6
  isplitl [H15]; · iexact H15
  isplitl [H16]; · iexact H16
  isplitl [H19]; · iexact H19
  isplitl [H20]; · iexact H20
  isplitl [H21]; · iexact H21
  iintro %r ⟨H1, H2, H3, H4, H5, H6, H15, H16, H19, H20, H21⟩
  obtain ⟨a, v, u⟩ := r
  dsimp only
  generalize rowsAt i x0 x1 s = s'
  simp only [k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part217_eq_skeleton]
  unfold owns
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  icases H13 with ⟨%d13, %f13, -, H13⟩
  icases H14 with ⟨%d14, %f14, -, H14⟩
  icases H15 with ⟨%f15, %hf15, H15⟩
  icases H16 with ⟨%f16, %hf16, H16⟩
  icases H17 with ⟨%f17, %hf17, H17⟩
  icases H18 with ⟨%f18, %hf18, H18⟩
  icases H19 with ⟨%f19, %hf19, H19⟩
  icases H20 with ⟨%f20, %hf20, H20⟩
  icases H21 with ⟨%d21, %f21, -, H21⟩
  icases H22 with ⟨%d22, %f22, -, H22⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg15.eq_unread hf15; obtain rfl := harg16.eq_unread hf16; obtain rfl := harg17.eq_unread hf17; obtain rfl := harg18.eq_unread hf18; obtain rfl := harg19.eq_unread hf19; obtain rfl := harg20.eq_unread hf20
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; swap; · iexact H13
    ipureintro
    have hz : ∀ ps, ps = zPieces (arg19.view.read (Elt F) (harg19.unread s')) (View.ld (arg20.view.read (Elt F) (harg20.unread (k0_pay274 x2)))
        (Rect.unit (s := S2048x512) ![0, 0] S2048x512.size inb_S2048x512_S2048x512_0_0)) →
        arg13.view.read (Elt F) (arg13.view.writes (Elt F) f13 ps) = zBlock s' (k0_pay274 x2) := by
      rintro ps rfl
      rw [View.read_writes_eq_canon _ _ _ (zPieces_cover _ _), View.ld_unit_lit' _ _ (by decide), harg19.read_unread, harg20.read_unread]
      rfl
    exact hz _ rfl
  isplitl [H14]
  · iexists _, _; isplitr; swap; · iexact H14
    ipureintro; rfl
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    by_cases h3 : k0_cond3 i = 1#1
    · rw [dif_pos h3, if_pos h3]
      exact (read_after_whole_store _ _ _ (by decide) _).trans
        (congrArg (fun X => k0_pay2 (lastRows X)) (harg10.read_unread x9))
    · rw [dif_neg h3, if_neg h3]; exact harg17.read_unread _
  isplitl [H18]
  · iexists _; isplitr; swap; · iexact H18
    ipureintro
    by_cases h3 : k0_cond3 i = 1#1
    · rw [dif_pos h3, if_pos h3]
      exact (read_after_whole_store _ _ _ (by decide) _).trans
        (congrArg (fun X => k0_pay3 (lastRows X)) (harg12.read_unread x11))
    · rw [dif_neg h3, if_neg h3]; exact harg18.read_unread _
  isplitl [H19]
  · iexists _; isplitr; · ipureintro; exact harg19.read_unread _
    iexact H19
  isplitl [H20]
  · iexists _, _; isplitr; swap; · iexact H20
    ipureintro; rfl
  isplitl [H21]
  · iexists _, _; isplitr; swap; · iexact H21
    ipureintro; rfl
  iexists _, _; isplitr; swap; · iexact H22
  ipureintro; rfl

end Run

end Cert.Proof.InProjSampleRun

end
-- ==== Proof.InProjSampleFrame.lean ====
module

public import proofs.«01_k».proof.Proof.InProjSampleRun

@[expose] public section

set_option maxRecDepth 16384

noncomputable section

namespace Cert.Proof.InProjSampleFrame

open Cert.InProjSampleIdeal Cert.InProjSampleIdeal.Gen Cert.Proof.InProjSampleRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The sample rows' input projection over its whole grid

Point `t` multiplies all rows with columns block `t` of the weights, and, up to point 15, works on block `t` of the
prompt's attention.  The scratch of normalised rows is written at the first point and kept.  A sequence takes four
attention points, and its states are written at the last of them; point 16 writes none.  Nothing is said of the
attention's output. -/

/-- Each window's staging buffer at a point. -/
abbrev ms0_0 (t : Fin cfg0.N) : Memref sig .tc .vmem S1024x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S2048x512 .f32 := win0_2.stage (cfg0.slots t 2)
abbrev ms0_3 (t : Fin cfg0.N) : Memref sig .tc .vmem S64x2048 .f32 := win0_3.stage (cfg0.slots t 3)
abbrev ms0_4 (t : Fin cfg0.N) : Memref sig .tc .vmem S64x2048 .f32 := win0_4.stage (cfg0.slots t 4)
abbrev ms0_5 (t : Fin cfg0.N) : Memref sig .tc .smem S32x16 .f32 := win0_5.stage (cfg0.slots t 5)
abbrev ms0_6 (t : Fin cfg0.N) : Memref sig .tc .smem S16 .f32 := win0_6.stage (cfg0.slots t 6)
abbrev ms0_7 (t : Fin cfg0.N) : Memref sig .tc .vmem S512x1024 .bf16 := win0_7.stage (cfg0.slots t 7)
abbrev ms0_8 (t : Fin cfg0.N) : Memref sig .tc .vmem S128x256 .bf16 := win0_8.stage (cfg0.slots t 8)
abbrev ms0_9 (t : Fin cfg0.N) : Memref sig .tc .vmem S512x256 .bf16 := win0_9.stage (cfg0.slots t 9)
abbrev ms0_10 (t : Fin cfg0.N) : Memref sig .tc .vmem S128x256 .bf16 := win0_10.stage (cfg0.slots t 10)
abbrev ms0_11 (t : Fin cfg0.N) : Memref sig .tc .vmem S512x256 .bf16 := win0_11.stage (cfg0.slots t 11)
abbrev ms0_12 (t : Fin cfg0.N) : Memref sig .tc .vmem S1024x512 .bf16 := win0_12.stage (cfg0.slots t 12)
abbrev ms0_13 (t : Fin cfg0.N) : Memref sig .tc .vmem S512x1024 .bf16 := win0_13.stage (cfg0.slots t 13)
abbrev ms0_14 (t : Fin cfg0.N) : Memref sig .tc .vmem S64x2048 .bf16 := win0_14.stage (cfg0.slots t 14)
abbrev ms0_15 (t : Fin cfg0.N) : Memref sig .tc .vmem S64x2048 .bf16 := win0_15.stage (cfg0.slots t 15)
abbrev ms0_16 (t : Fin cfg0.N) : Memref sig .tc .vmem S1x256x128 .f32 := win0_16.stage (cfg0.slots t 16)
abbrev ms0_17 (t : Fin cfg0.N) : Memref sig .tc .vmem S1x256x128 .f32 := win0_17.stage (cfg0.slots t 17)

/-- The scratch buffers: the normalised rows, and the attention's three. -/
abbrev scM0 : Memref sig .tc .vmem S1024x2048 .bf16 := Memref.whole cc0_scratch0
abbrev scM1 : Memref sig .tc .vmem S2048x512 .bf16 := Memref.whole cc0_scratch1
abbrev scM2 : Memref sig .tc .vmem S2x2048x128 .f32 := Memref.whole cc0_scratch2
abbrev scM3 : Memref sig .tc .vmem S4x2048x256 .bf16 := Memref.whole cc0_scratch3

/-- The region's invariant with the scratch buffers named. -/
theorem scoped_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The first point. -/
def t0 : Fin cfg0.N := ⟨0, lt_of_lt_of_eq (by decide : 0 < 17) (show cfg0.N = 17 from N_0).symm⟩

/-- The normalised rows every point multiplies. -/
def xn (c : Dev nD) : Vec F S1024x2048 .bf16 := normAll (iblk m c 0 t0) (iblk m c 1 t0)

/-- The attention's block at a point: the point's own, the last one at the point that has none. -/
def tl (t : Fin cfg0.N) : Fin cfg0.N := ⟨min t.val 15, lt_of_le_of_lt (min_le_left _ _) t.isLt⟩

theorem cond_first : ∀ t : Fin cfg0.N,
    ((Scalar.cmpi .ne (Scalar.extui (Scalar.cmpi .eq (BitVec.ofNat 32 (grid0.coords t 0).val) 0#32)) 0#32) = 1#1 ↔ k0_cond2 (grid0.coords t) = 1#1) :=
  (by decide +kernel : ∀ t : Fin grid0.N, _)

theorem cond_rows : ∀ t : Fin cfg0.N, k0_cond2 (grid0.coords t) = 1#1 ↔ t.val = 0 :=
  (by decide +kernel : ∀ t : Fin grid0.N, k0_cond2 (grid0.coords t) = 1#1 ↔ t.val = 0)

theorem cond_state : ∀ t : Fin cfg0.N, k0_cond3 (grid0.coords t) = 1#1 ↔ t.val % 4 = 3 :=
  (by decide +kernel : ∀ t : Fin grid0.N, k0_cond3 (grid0.coords t) = 1#1 ↔ t.val % 4 = 3)

/-- Whatever the points before left, the body has the normalised rows to multiply. -/
theorem rowsAt_eq (c : Dev nD) (t : Fin cfg0.N) (s : Vec F S1024x2048 .bf16) (hs : t.val ≠ 0 → s = xn m c) :
    rowsAt (grid0.coords t) (iblk m c 0 t) (iblk m c 1 t) s = xn m c := by
  unfold rowsAt
  by_cases h : t.val = 0
  · rw [if_pos ((cond_rows t).mpr h), show t = t0 from Fin.ext h]; rfl
  · rw [if_neg fun h' => h ((cond_rows t).mp h'), hs h]

/-- What is held besides the windows before point `n`: the scratch of normalised rows at anything at first, later at
    those rows; the attention's buffers at anything. -/
def PhiS (c : Dev nD) (n : ℕ) : sProp 𝕄 :=
  iprop(iprop((∃ s, ⌜n ≠ 0 → s = xn m c⌝ ∗ owns (c : Thread nD τ) scM0 fullShare s) ∗ (∃ d, owns (c : Thread nD τ) scM1 fullShare d)
    ∗ (∃ d, owns (c : Thread nD τ) scM2 fullShare d) ∗ (∃ d, owns (c : Thread nD τ) scM3 fullShare d)) ∗ (∃ r, prngReg c r))

/-- Only of the attention's output nothing is said. -/
def forgets : Fin 18 → Bool := fun w => w.val == 13

/-- What each buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => X0_7 m c t
    | ⟨8, _⟩ => iblk m c 8 t
    | ⟨9, _⟩ => iblk m c 9 t
    | ⟨10, _⟩ => iblk m c 10 t
    | ⟨11, _⟩ => iblk m c 11 t
    | ⟨12, _⟩ => zBlock (xn m c) (k0_pay274 (iblk m c 2 t))
    | ⟨13, h⟩ => Pipeline.Dat.unnamed (cfg := cfg0) ⟨13, h⟩ t
    | ⟨14, _⟩ => k0_pay275 (iblk m c 3 t)
    | ⟨15, _⟩ => k0_pay276 (iblk m c 4 t)
    | ⟨16, _⟩ => k0_pay2 (lastRows (iblk m c 9 (tl t)))
    | ⟨17, _⟩ => k0_pay3 (lastRows (iblk m c 11 (tl t)))
    | ⟨_ + 18, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = X0_7 m c t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = zBlock (xn m c) (k0_pay274 (iblk m c 2 t)) := by dsimp only [dats]
theorem after0_14 (c : Dev nD) (t : Fin cfg0.N) : (dats m 0 c).after 14 t = k0_pay275 (iblk m c 3 t) := by dsimp only [dats]
theorem after0_15 (c : Dev nD) (t : Fin cfg0.N) : (dats m 0 c).after 15 t = k0_pay276 (iblk m c 4 t) := by dsimp only [dats]
theorem after0_16 (c : Dev nD) (t : Fin cfg0.N) : (dats m 0 c).after 16 t = k0_pay2 (lastRows (iblk m c 9 (tl t))) := by dsimp only [dats]
theorem after0_17 (c : Dev nD) (t : Fin cfg0.N) : (dats m 0 c).after 17 t = k0_pay3 (lastRows (iblk m c 11 (tl t))) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = X0_7 m c t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- The keys' state is written where a sequence ends, and nowhere else; -/
theorem live_16 : ∀ t : Fin cfg0.N, t.val % 4 = 3 → cfg0.idle 16 (grid0.coords t) = false :=
  (by decide +kernel : ∀ t : Fin grid0.N, t.val % 4 = 3 → idle0 16 (grid0.coords t) = false)

theorem idle_16 : ∀ t : Fin cfg0.N, t.val % 4 ≠ 3 → cfg0.idle 16 (grid0.coords t) = true :=
  (by decide +kernel : ∀ t : Fin grid0.N, t.val % 4 ≠ 3 → idle0 16 (grid0.coords t) = true)

/-- where it is not written it is taken out at the last point only. -/
theorem flush_16 : ∀ t : Fin cfg0.N, t.val % 4 ≠ 3 → (cfg0.win 16).flush t = decide (t.val = 16) :=
  (by decide +kernel : ∀ t : Fin grid0.N, t.val % 4 ≠ 3 → win0_16.flush t = decide (t.val = 16))

theorem noflush_16 : ∀ t : Fin cfg0.N, t.val = 15 → (cfg0.win 16).flush t = false :=
  (by decide +kernel : ∀ t : Fin grid0.N, t.val = 15 → win0_16.flush t = false)

/-- The last point finds the state the one before left. -/
theorem before_16 (c : Dev nD) (t : Fin cfg0.N) (ht : t.val = 16) (d) : (dats m 0 c).before 16 t d = (dats m 0 c).after 16 t := by
  have hl := live_16 ⟨t.val - 1, by omega⟩ (by show (t.val - 1) % 4 = 3; omega)
  have hf := noflush_16 ⟨t.val - 1, by omega⟩ (by show t.val - 1 = 15; omega)
  rw [(dats m 0 c).before_of_pos 16 t (by omega) ((cfg0.win 16).fetch_out rfl t), hf, if_neg Bool.false_ne_true]
  unfold Dat.left
  rw [show cfg0.idle 16 (cfg0.grid.coords ⟨t.val - 1, _⟩) = false from hl]
  dsimp only
  unfold Dat.kept
  rw [Pipeline.fill_of_clip_none 16 _ (fun _ => rfl) d ((dats m 0 c).after 16 _), Pipeline.Window.fill_cut]
  rw [after0_16, after0_16, show tl ⟨t.val - 1, _⟩ = tl t from Fin.ext (by show min (t.val - 1) 15 = min t.val 15; omega)]

/-- So each point leaves the state as stated. -/
theorem leaves_16 (c : Dev nD) (t : Fin cfg0.N) (d) :
    owns (c : Thread nD τ) (ms0_16 t) fullShare (if k0_cond3 (grid0.coords t) = 1#1 then k0_pay2 (lastRows (iblk m c 9 t)) else (dats m 0 c).before 16 t d)
      ⊢ ((dats m 0 c).leavesExact 16 t : sProp 𝕄) := by
  unfold Dat.leavesExact
  by_cases h : t.val % 4 = 3
  · have hN : t.val < 17 := lt_of_lt_of_eq t.isLt (show cfg0.N = 17 from N_0)
    rw [live_16 t h, if_pos ((cond_state t).mpr h), after0_16, show tl t = t from Fin.ext (by show min t.val 15 = t.val; omega)]
  · rw [idle_16 t h, if_neg fun h' => h ((cond_state t).mp h'), flush_16 t h]
    by_cases h16 : t.val = 16
    · rw [before_16 m c t h16 d, show decide (t.val = 16) = true from decide_eq_true h16]
    · rw [show decide (t.val = 16) = false from decide_eq_false h16]
      iintro H; iexists d; iexact H

/-- The values' state is written where a sequence ends, and nowhere else; -/
theorem live_17 : ∀ t : Fin cfg0.N, t.val % 4 = 3 → cfg0.idle 17 (grid0.coords t) = false :=
  (by decide +kernel : ∀ t : Fin grid0.N, t.val % 4 = 3 → idle0 17 (grid0.coords t) = false)

theorem idle_17 : ∀ t : Fin cfg0.N, t.val % 4 ≠ 3 → cfg0.idle 17 (grid0.coords t) = true :=
  (by decide +kernel : ∀ t : Fin grid0.N, t.val % 4 ≠ 3 → idle0 17 (grid0.coords t) = true)

/-- where it is not written it is taken out at the last point only. -/
theorem flush_17 : ∀ t : Fin cfg0.N, t.val % 4 ≠ 3 → (cfg0.win 17).flush t = decide (t.val = 16) :=
  (by decide +kernel : ∀ t : Fin grid0.N, t.val % 4 ≠ 3 → win0_17.flush t = decide (t.val = 16))

theorem noflush_17 : ∀ t : Fin cfg0.N, t.val = 15 → (cfg0.win 17).flush t = false :=
  (by decide +kernel : ∀ t : Fin grid0.N, t.val = 15 → win0_17.flush t = false)

/-- The last point finds the state the one before left. -/
theorem before_17 (c : Dev nD) (t : Fin cfg0.N) (ht : t.val = 16) (d) : (dats m 0 c).before 17 t d = (dats m 0 c).after 17 t := by
  have hl := live_17 ⟨t.val - 1, by omega⟩ (by show (t.val - 1) % 4 = 3; omega)
  have hf := noflush_17 ⟨t.val - 1, by omega⟩ (by show t.val - 1 = 15; omega)
  rw [(dats m 0 c).before_of_pos 17 t (by omega) ((cfg0.win 17).fetch_out rfl t), hf, if_neg Bool.false_ne_true]
  unfold Dat.left
  rw [show cfg0.idle 17 (cfg0.grid.coords ⟨t.val - 1, _⟩) = false from hl]
  dsimp only
  unfold Dat.kept
  rw [Pipeline.fill_of_clip_none 17 _ (fun _ => rfl) d ((dats m 0 c).after 17 _), Pipeline.Window.fill_cut]
  rw [after0_17, after0_17, show tl ⟨t.val - 1, _⟩ = tl t from Fin.ext (by show min (t.val - 1) 15 = min t.val 15; omega)]

/-- So each point leaves the state as stated. -/
theorem leaves_17 (c : Dev nD) (t : Fin cfg0.N) (d) :
    owns (c : Thread nD τ) (ms0_17 t) fullShare (if k0_cond3 (grid0.coords t) = 1#1 then k0_pay3 (lastRows (iblk m c 11 t)) else (dats m 0 c).before 17 t d)
      ⊢ ((dats m 0 c).leavesExact 17 t : sProp 𝕄) := by
  unfold Dat.leavesExact
  by_cases h : t.val % 4 = 3
  · have hN : t.val < 17 := lt_of_lt_of_eq t.isLt (show cfg0.N = 17 from N_0)
    rw [live_17 t h, if_pos ((cond_state t).mpr h), after0_17, show tl t = t from Fin.ext (by show min t.val 15 = t.val; omega)]
  · rw [idle_17 t h, if_neg fun h' => h ((cond_state t).mp h'), flush_17 t h]
    by_cases h16 : t.val = 16
    · rw [before_17 m c t h16 d, show decide (t.val = 16) = true from decide_eq_true h16]
    · rw [show decide (t.val = 16) = false from decide_eq_false h16]
      iintro H; iexists d; iexact H

/-- What the body at point `t` is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ owns (c : Thread nD τ) (ms0_14 t) fullShare ((dats m 0 c).after 14 t)
    ∗ owns (c : Thread nD τ) (ms0_15 t) fullShare ((dats m 0 c).after 15 t)
    ∗ (dats m 0 c).leavesExact 16 t
    ∗ (dats m 0 c).leavesExact 17 t)

set_option maxHeartbeats 3200000 in
/-- The body at every point keeps the invariant and leaves each buffer as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_14, after0_15]
  rw [show (dats m 0 c).Φ t.succ = PhiS m c (t.val + 1) from rfl, show (dats m 0 c).Φ t.castSucc = PhiS m c t.val from rfl]
  unfold PhiS
  iintro ⟨⟨⟨⟨%s, %hs, HS⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (run c (grid0.coords t) _ _ _ _ _ _ _ _ _ _ _ _ _ _ _ _ _ _ _ _ _ _ _ _ _ _ _ _ _ _ _ _ _ _ _ _ _ _ _ _ _ _ _ _ (cond_first t) (iblk m c 0 t) (iblk m c 1 t) (iblk m c 2 t) (iblk m c 3 t) (iblk m c 4 t) (iblk m c 5 t) (iblk m c 6 t) (X0_7 m c t) (iblk m c 8 t) (iblk m c 9 t) (iblk m c 10 t) (iblk m c 11 t) ((dats m 0 c).before 16 t d16) ((dats m 0 c).before 17 t d17) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexact H16
  isplitl [H17]; · iexact H17
  isplitl [HS]; · iexact HS
  isplitl [HS1]; · iexact HS1
  isplitl [HS2]; · iexact HS2
  isplitl [HS3]; · iexact HS3
  rw [rowsAt_eq m c t s hs]
  iintro ⟨H0, H1, H2, H3, H4, H5, H6, H7, H8, H9, H10, H11, H12, H13, H14, H15, H16, H17, HS, HS1, HS2, HS3⟩
  isplitl [HS HS1 HS2 HS3 Hg]
  · isplitl [HS HS1 HS2 HS3]
    · isplitl [HS]
      · iexists _; isplitr; swap; · iexact HS
        ipureintro; exact fun _ => rfl
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (leaves_16 m c t d16); iexact H16
  iapply (leaves_17 m c t d17); iexact H17

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, body_row]
  exact triple_restated (sound_body m c t) rfl .rfl fun _ => .rfl

/-- The invariant holds when the region is entered, -/
theorem hin (c : Dev nD) : Pipeline.ΦA spec0 c ⊢ (dats m 0 c).Φ 0 := by
  rw [show (dats m 0 c).Φ 0 = PhiS m c 0 from rfl, scoped_eq]
  unfold PhiS
  iintro ⟨⟨⟨%s, HS⟩, HS1, HS2, HS3⟩, Hg⟩
  isplitl [HS HS1 HS2 HS3]
  · isplitl [HS]
    · iexists s; isplitr; swap; · iexact HS
      ipureintro; exact fun h => absurd rfl h
    isplitl [HS1]; · iexact HS1
    isplitl [HS2]; · iexact HS2
    iexact HS3
  iexact Hg

/-- and gives the region's buffers back when it is left. -/
theorem hout (c : Dev nD) : (dats m 0 c).Φ (Fin.last cfg0.N) ⊢ Pipeline.ΦA spec0 c := by
  rw [show (dats m 0 c).Φ (Fin.last cfg0.N) = PhiS m c (Fin.last cfg0.N).val from rfl, scoped_eq]
  unfold PhiS
  iintro ⟨⟨⟨%s, -, HS⟩, HS1, HS2, HS3⟩, Hg⟩
  isplitl [HS HS1 HS2 HS3]
  · isplitl [HS]; · iexists s; iexact HS
    isplitl [HS1]; · iexact HS1
    isplitl [HS2]; · iexact HS2
    iexact HS3
  iexact Hg

set_option backward.isDefEq.respectTransparency.types false in
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hin := hin m) (hout := hout m)

/-- Every execution of the program ends, with every array but the attention's output at what the points wrote, and
    every counter at zero. -/
theorem run_main : θ_run defs (onTc (τ := τ) (main (F := F))) (s₀ m ρ) (fun r =>
    (∀ (c : Dev nD) (w : Fin cfg0.W), forgets w = false →
      r.2.mem ((cfg0.spec w).arr.view.loc (c.tc : Thread nD τ)) = (dats m 0 c).arrAt w (cfgs 0).N) ∧ r.2.sem = fun _ => 0) :=
  (θ_run defs _ _).mono (fun r h => ⟨fun c w hw => ((dats m 0 c).toRForget_arrAt_iff hw _ _).mp ((h.1 c).1 w), h.2⟩) (run_main_quiescent m ρ)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c =>
    ⟨(h.1 c 0 rfl).trans (((dats m 0 c).arrAt_in 0 rfl _).trans ((A_eq m c 0).trans (V_main_arg0 m c))),
      (h.1 c 1 rfl).trans (((dats m 0 c).arrAt_in 1 rfl _).trans ((A_eq m c 1).trans (V_main_arg1 m c))),
      (h.1 c 2 rfl).trans (((dats m 0 c).arrAt_in 2 rfl _).trans ((A_eq m c 2).trans (V_main_arg2 m c))),
      (h.1 c 3 rfl).trans (((dats m 0 c).arrAt_in 3 rfl _).trans ((A_eq m c 3).trans (V_main_arg3 m c))),
      (h.1 c 4 rfl).trans (((dats m 0 c).arrAt_in 4 rfl _).trans ((A_eq m c 4).trans (V_main_arg4 m c))),
      (h.1 c 11 rfl).trans (((dats m 0 c).arrAt_in 11 rfl _).trans ((A_eq m c 11).trans (V_main_arg5 m c))),
      (h.1 c 5 rfl).trans (((dats m 0 c).arrAt_in 5 rfl _).trans ((A_eq m c 5).trans (V_main_arg6 m c))),
      (h.1 c 6 rfl).trans (((dats m 0 c).arrAt_in 6 rfl _).trans ((A_eq m c 6).trans (V_main_arg7 m c)))⟩, h.2⟩) (run_main m ρ)

end Cert.Proof.InProjSampleFrame

end
-- ==== Proof.InProjSampleValue.lean ====
module

public import proofs.«01_k».proof.Proof.InProjSampleFrame
public import proofs.«01_k».proof.Proof.RmsNorm
public import proofs.«01_k».proof.Proof.Gen.InProjSampleReferenceIdeal.Read
public import Idealize.ShloMosaic.Lib.Pointwise
public import Idealize.ShloMosaic.Lib.Pipeline.ValueKit

@[expose] public section

set_option maxRecDepth 16384

noncomputable section

namespace Cert.Proof.InProjSampleValue

open Cert.InProjSampleIdeal Cert.InProjSampleIdeal.Gen
open Idealize.ShloMosaic Idealize.ShloMosaic.TcCoe Idealize.ShloMosaic.Tactic Idealize.SL.Sem
open Idealize.ShloMosaic.Pipeline (Dat)
open Cert.Proof.InProjSampleRun Cert.Proof.InProjSampleFrame
open Cert.InProjSampleReferenceIdeal.Read

/-! # The results of the sample rows' input projection are the reference's

Every point multiplies the normalised rows with its block of the weights, in four row blocks; the blocks of columns are taken
in the order that puts columns 4608 to 8703 first. The states are the last 128 keys and values of each prompt sequence. -/

/-- A row block of the normalisation. -/
theorem pay273_apply (x : FVec Ideal S256x2048 .f32) (g : FVec Ideal S1x2048 .f32) (j : S256x2048.Idx) :
    k0_pay273 (F := Ideal) x g j = normed (fun k => x (ix2 (j 0) k)) (x j) (g (ix2 0 (j 1))) := by
  pointwise [k0_pay273, normed]

/-- The sample rows, normalised, entry by entry. -/
theorem normAll_apply (x : Vec Ideal S1024x2048 .f32) (g : Vec Ideal S1x2048 .f32) (y : S1024x2048.Idx) :
    normAll (F := Ideal) x g y = normed (fun k => x (ix2 (y 0) k)) (x y) (g (ix2 0 (y 1))) := by
  have key : ∀ k : ℕ, View.AllAt (Val := Elt Ideal) (normPieces (F := Ideal) x g k) y (normed (fun k => x (ix2 (y 0) k)) (x y) (g (ix2 0 (y 1)))) := by
    intro k
    induction k with
    | zero => exact View.allAt_nil _ _
    | succ k ih =>
      rw [normPieces]
      split
      next hk =>
        refine View.allAt_cons _ _ _ (fun z hz => ?_) ih
        have o0 : k0_off1 ⟨k, hk⟩ 0 = 256 * k := by rw [k0_off1_eq]; rfl
        have o1 : k0_off1 ⟨k, hk⟩ 1 = 0 := by rw [k0_off1_eq]; rfl
        have e0 : (y 0 : ℕ) = 256 * k + z 0 := by
          rw [← hz, Rect.emb_apply]; show k0_off1 ⟨k, hk⟩ 0 + 1 * (z 0 : ℕ) = _; omega
        have e1 : (y 1 : ℕ) = z 1 := by
          rw [← hz, Rect.emb_apply]; show k0_off1 ⟨k, hk⟩ 1 + 1 * (z 1 : ℕ) = _; omega
        have hrow : ∀ q : Fin 2048, (rows ⟨k, hk⟩).emb (ix2 (z 0) q) = ix2 (y 0) q := fun q => funext fun a => Fin.ext (by
          rw [Rect.emb_apply]
          fin_cases a
          · show k0_off1 ⟨k, hk⟩ 0 + 1 * (z 0 : ℕ) = y 0; omega
          · show k0_off1 ⟨k, hk⟩ 1 + 1 * (q : ℕ) = q; omega)
        refine (pay273_apply _ g z).trans ?_
        have hg : z 1 = y 1 := Fin.ext e1.symm
        show normed (fun q => x ((rows ⟨k, hk⟩).emb (ix2 (z 0) q))) (x ((rows ⟨k, hk⟩).emb z)) (g (ix2 0 (z 1))) = _
        simp only [hrow]
        rw [hz]
        exact congrArg (fun q => normed _ _ (g (ix2 0 q))) hg
      next hk => exact ih
  exact View.canon_eq_of_allAt (Val := Elt Ideal) _ y _ (normPieces_cover x g y) (key _)

/-- A row block's store, whose payload is a product of rows with a block of weights, at a place of the block. -/
theorem zPiece (s : Vec Ideal S1024x2048 .bf16) (w : Vec Ideal S2048x512 .bf16) (y : S1024x512.Idx) (o : ℕ)
    (inb : ∀ a, (![o, 0] : Fin 2 → ℕ) a + S256x512.size a ≤ S1024x512.size a)
    (inb' : ∀ a, (![o, 0] : Fin 2 → ℕ) a + S256x2048.size a ≤ S1024x2048.size a)
    (pay : Vec Ideal S256x2048 .bf16 → Vec Ideal S2048x512 .bf16 → FVec Ideal S256x512 .bf16)
    (hpay : ∀ (a : FVec Ideal S256x2048 .bf16) (b : FVec Ideal S2048x512 .bf16) (j : S256x512.Idx),
      pay a b j = ∑ k : Fin 2048, a (ix2 (j 0) k) * b (ix2 k (j 1))) :
    View.RectAt (Val := Elt Ideal) (e := .bf16) y (Rect.unit (s := S1024x512) ![o, 0] S256x512.size inb)
      (pay (View.ld (Val := Elt Ideal) s (Rect.unit (s := S1024x2048) ![o, 0] S256x2048.size inb')) w)
      (∑ k : Fin 2048, s (ix2 (y 0) k) * w (ix2 k (y 1))) := by
  intro z hz
  have e0 : (y 0 : ℕ) = o + z 0 := by rw [← hz, Rect.emb_apply]; show o + 1 * (z 0 : ℕ) = _; omega
  have e1 : y 1 = z 1 := Fin.ext (by rw [← hz, Rect.emb_apply]; show 0 + 1 * (z 1 : ℕ) = _; omega)
  refine (hpay _ _ z).trans (Finset.sum_congr rfl fun k _ => congrArg₂ (· * ·) ?_ ?_)
  · refine View.ld_unit_apply_of _ _ _ _ _ _ fun a => ?_
    fin_cases a
    · exact e0
    · show (k : ℕ) = 0 + (k : ℕ); omega
  · exact congrArg (fun q => w (ix2 k q)) e1.symm

theorem pay687_apply (a : FVec Ideal S256x2048 .bf16) (b : FVec Ideal S2048x512 .bf16) (j : S256x512.Idx) :
    k0_pay687 (F := Ideal) a b j = ∑ k : Fin 2048, a (ix2 (j 0) k) * b (ix2 k (j 1)) := by
  pointwise [k0_pay687]

/-- A block of the projection, entry by entry. -/
theorem zBlock_apply (s : Vec Ideal S1024x2048 .bf16) (w : Vec Ideal S2048x512 .bf16) (y : S1024x512.Idx) :
    zBlock (F := Ideal) s w y = ∑ k : Fin 2048, s (ix2 (y 0) k) * w (ix2 k (y 1)) := by
  refine View.canon_eq_of_allAt (Val := Elt Ideal) _ y _ (zPieces_cover s w y) ?_
  unfold zPieces
  iterate 4 refine View.allAt_cons _ _ _ (zPiece s w y _ _ _ _ pay687_apply) ?_
  exact View.allAt_nil _ _

variable (m : (ℓ : Loc nD τ sig) → Buf (Elt Ideal) ℓ)

/-- The blocks of the windows at a point. -/
theorem idx : ∀ t : Fin cfg0.N, win0_0.index t = ![0, 0] ∧ win0_1.index t = ![0, 0] ∧ win0_2.index t = ![0, (t.val + 9) % 17]
    ∧ win0_3.index t = ![min t.val 15, 0] ∧ win0_4.index t = ![min t.val 15, 0]
    ∧ win0_9.index t = ![min t.val 15, 32] ∧ win0_11.index t = ![min t.val 15, 33] ∧ win0_12.index t = ![0, t.val]
    ∧ win0_14.index t = ![min t.val 15, 0] ∧ win0_15.index t = ![min t.val 15, 0]
    ∧ win0_16.index t = ![min t.val 15 / 4, 0, 0] ∧ win0_17.index t = ![min t.val 15 / 4, 0, 0] ∧ t.val < 17 :=
  (by decide +kernel : ∀ t : Fin grid0.N, _)

/-- The reference's normalised rows. -/
theorem norm_apply (x0 : FVec Ideal S1024x2048 .f32) (x1 : FVec Ideal S1x2048 .f32) (i : S1024x2048.Idx) :
    val_main_v11 (F := Ideal) x0 x1 i = normed (fun k => x0 (ix2 (i 0) k)) (x0 i) (x1 (ix2 0 (i 1))) := by
  pointwise [val_main_v11, val_main_v10, val_main_v9, val_main_v8, val_main_v7, val_main_v6, val_main_v5, val_main_cst_1,
    val_main_v4, val_main_v3, val_main_cst_0, val_main_v2, val_main_v1, val_main_cst, val_main_v0, normed]

/-- The rows every point multiplies are the reference's normalised rows. -/
theorem xn_apply (c : Dev nD) (y : S1024x2048.Idx) :
    xn m c y = val_main_v11 (F := Ideal) (m ((c : Thread nD τ).loc main_arg0)) (m ((c : Thread nD τ).loc main_arg1)) y := by
  unfold xn
  rw [normAll_apply, norm_apply]
  have hrow : ∀ k : Fin 2048, iblk m c 0 t0 (ix2 (y 0) k) = (m ((c : Thread nD τ).loc main_arg0)) (ix2 (y 0) k) := fun k => by
    blk_point [iblk, V, idx t0]
  simp only [hrow]
  unfold normed
  blk_point [iblk, V, idx t0]

/-- Each entry of a block of the projection is the reference's. -/
theorem point_12 (c : Dev nD) (t : Fin cfg0.N) (y : S1024x512.Idx) (i : S1024x8704.Idx)
    (h0 : (i 0 : ℕ) = y 0) (h1 : (i 1 : ℕ) = t.val * 512 + y 1) :
    zBlock (F := Ideal) (xn m c) (k0_pay274 (iblk m c 2 t)) y = val_main_v27 (F := Ideal) (m ((c : Thread nD τ).loc main_arg0)) (m ((c : Thread nD τ).loc main_arg1)) (m ((c : Thread nD τ).loc main_arg2)) i := by
  rw [zBlock_apply]
  have hi : i 0 = y 0 := Fin.ext h0
  simp only [xn_apply]
  pointwise [k0_pay274, val_main_v27, val_main_v15, val_main_v14, val_main_v13, val_main_v12]
  blk_point [iblk, V, idx t]

/-- The projection's array after the run. -/
theorem final_12 (c : Dev nD) : (dats m 0 c).arrAt 12 (cfgs 0).N = val_main_v27 (F := Ideal) (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  exact point_12 m c t y _ (by blk_simp [idx t]) (by blk_simp [idx t])

/-- The first converted weights' array after the run. -/
theorem final_14 (c : Dev nD) : (dats m 0 c).arrAt 14 (cfgs 0).N = val_main_v28 (F := Ideal) (m ((c : Thread nD τ).loc main_arg3)) := by
  refine (dats m 0 c).arrAt_eq_of_covers 14 _ (by decide +kernel) fun t hf y => ?_
  blk_simp
  rw [after0_14]
  pointwise [k0_pay275, val_main_v28]
  blk_point [iblk, V, idx t]

/-- The second converted weights' array after the run. -/
theorem final_15 (c : Dev nD) : (dats m 0 c).arrAt 15 (cfgs 0).N = val_main_v29 (F := Ideal) (m ((c : Thread nD τ).loc main_arg4)) := by
  refine (dats m 0 c).arrAt_eq_of_covers 15 _ (by decide +kernel) fun t hf y => ?_
  blk_simp
  rw [after0_15]
  pointwise [k0_pay276, val_main_v29]
  blk_point [iblk, V, idx t]

/-- The states are taken out after a sequence's last block of the attention. -/
theorem flush_last : ∀ t : Fin cfg0.N, (win0_16.flush t = true → min t.val 15 % 4 = 3) ∧ (win0_17.flush t = true → min t.val 15 % 4 = 3) :=
  (by decide +kernel : ∀ t : Fin grid0.N, _)

/-- A sequence's last block leaves its last 128 keys, the reference's state, -/
theorem point_16 (c : Dev nD) (t : Fin cfg0.N) (h : min t.val 15 % 4 = 3) (y : S1x256x128.Idx) (i : S4x256x128.Idx)
    (h0 : (i 0 : ℕ) = min t.val 15 / 4 + y 0) (h1 : (i 1 : ℕ) = y 1) (h2 : (i 2 : ℕ) = y 2) :
    k0_pay2 (F := Ideal) (lastRows (iblk m c 9 (tl t))) y = val_main_v23 (F := Ideal) (m ((c : Thread nD τ).loc main_arg5)) i := by
  have hy0 : (y 0).val < 1 := (y 0).isLt
  have ht : (tl t).val = min t.val 15 := rfl
  pointwise [k0_pay2, lastRows, val_main_v23, val_main_v22, val_main_v21, val_main_v18, val_main_v17, val_main_v16]
  blk_point [iblk, V, idx (tl t)]

/-- and its last 128 values. -/
theorem point_17 (c : Dev nD) (t : Fin cfg0.N) (h : min t.val 15 % 4 = 3) (y : S1x256x128.Idx) (i : S4x256x128.Idx)
    (h0 : (i 0 : ℕ) = min t.val 15 / 4 + y 0) (h1 : (i 1 : ℕ) = y 1) (h2 : (i 2 : ℕ) = y 2) :
    k0_pay3 (F := Ideal) (lastRows (iblk m c 11 (tl t))) y = val_main_v26 (F := Ideal) (m ((c : Thread nD τ).loc main_arg5)) i := by
  have hy0 : (y 0).val < 1 := (y 0).isLt
  have ht : (tl t).val = min t.val 15 := rfl
  pointwise [k0_pay3, lastRows, val_main_v26, val_main_v25, val_main_v24, val_main_v20, val_main_v19, val_main_v16]
  blk_point [iblk, V, idx (tl t)]

/-- The keys' states after the run. -/
theorem final_16 (c : Dev nD) : (dats m 0 c).arrAt 16 (cfgs 0).N = val_main_v23 (F := Ideal) (m ((c : Thread nD τ).loc main_arg5)) := by
  refine (dats m 0 c).arrAt_eq_of_covers 16 _ (by decide +kernel) fun t hf y => ?_
  blk_simp
  rw [after0_16]
  exact point_16 m c t ((flush_last t).1 hf) y _ (by blk_simp [idx t]) (by blk_simp [idx t]) (by blk_simp [idx t])

/-- The values' states after the run. -/
theorem final_17 (c : Dev nD) : (dats m 0 c).arrAt 17 (cfgs 0).N = val_main_v26 (F := Ideal) (m ((c : Thread nD τ).loc main_arg5)) := by
  refine (dats m 0 c).arrAt_eq_of_covers 17 _ (by decide +kernel) fun t hf y => ?_
  blk_simp
  rw [after0_17]
  exact point_17 m c t ((flush_last t).2 hf) y _ (by blk_simp [idx t]) (by blk_simp [idx t]) (by blk_simp [idx t])

end Cert.Proof.InProjSampleValue

end
-- ==== Proof.MixRun.lean ====
module

public import proofs.«01_k».proof.Proof.Gen.MixIdeal.Frame
public import proofs.«01_k».proof.Proof.Gen.MixIdeal.Skeleton
public import proofs.«01_k».proof.Proof.WholeStore

@[expose] public section

set_option maxRecDepth 16384

noncomputable section

namespace Cert.Proof.MixRun

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the mixing kernel

The kernel mixes 256 rows at a time.  Beside its windows it keeps the last eight rows of the gated
convolution's input in a scratch buffer, so that the next block of the same sequence can look two rows back;
at the first block of a sequence the rows kept are ignored.  Here the body is run once, at any grid point, and
what each buffer holds afterwards is named. -/

/-- Whether the block at grid coordinates `i` is the first of its sequence: eight blocks make one. -/
def firstBlock (i : grid0.Coords) : BitVec 1 :=
  Scalar.cmpi .eq
    (Scalar.select
      (Scalar.andi
        (Scalar.xori
          (Scalar.cmpi .slt (Scalar.remsi (BitVec.ofNat 32 (i 0).val) (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi (BitVec.ofNat 32 (i 0).val) (Scalar.select (Scalar.cmpi .eq 8#32 0#32) 1#32 8#32)) 0#32))
      (Scalar.addi (Scalar.remsi (BitVec.ofNat 32 (i 0).val) (Scalar.select (Scalar.cmpi .eq 8#32 0#32) 1#32 8#32))
        (Scalar.select (Scalar.cmpi .eq 8#32 0#32) 1#32 8#32))
      (Scalar.remsi (BitVec.ofNat 32 (i 0).val) (Scalar.select (Scalar.cmpi .eq 8#32 0#32) 1#32 8#32)))
    0#32

/-- Row `0` of the three convolution weights, -/
def tap0 (x : Vec F S3x1024 .f32) : Vec F S1x1024 .f32 :=
  View.ld x (Rect.unit (s := S3x1024) ![0, 0] S1x1024.size inb_S3x1024_S1x1024_0_0)
/-- row `1`, -/
def tap1 (x : Vec F S3x1024 .f32) : Vec F S1x1024 .f32 :=
  View.ld x (Rect.unit (s := S3x1024) ![1, 0] S1x1024.size inb_S3x1024_S1x1024_1_0)
/-- and row `2`. -/
def tap2 (x : Vec F S3x1024 .f32) : Vec F S1x1024 .f32 :=
  View.ld x (Rect.unit (s := S3x1024) ![2, 0] S1x1024.size inb_S3x1024_S1x1024_2_0)

/-- The convolution's branch of a block, projected: from the block's gates and input, the kept rows `s`, the
    weights and the projection. -/
def convBranch (i : grid0.Coords) (x0 x1 x2 : Vec F S256x1024 .bf16) (x3 : Vec F S3x1024 .f32) (x9 : Vec F S1024x2048 .bf16)
    (s : Vec F S8x1024 .f32) : FVec F S256x2048 .f32 :=
  k0_pay9 (k0_pay6 x1 x2) (firstBlock i) s x0 (tap0 x3) (tap1 x3) (tap2 x3) x9

/-- The block of the mixed residual stream a point writes. -/
def hBlock (i : grid0.Coords) (x0 : Vec F S256x1024 .bf16) (x1 : Vec F S256x1024 .bf16) (x2 : Vec F S256x1024 .bf16) (x3 : Vec F S3x1024 .f32) (x4 : Vec F S256x1024 .bf16) (x5 : Vec F S256x2048 .bf16) (x6 : Vec F S256x2048 .bf16) (x7 : Vec F S256x2048 .f32) (x8 : Vec F S1x2048 .f32) (x9 : Vec F S1024x2048 .bf16) (x10 : Vec F S1024x2048 .bf16) (x11 : Vec F S2048x2048 .bf16) (x12 : Vec F S64x5632 .f32) (x13 : Vec F S64x5632 .f32) (x14 : Vec F S176x2048 .f32) (s : Vec F S8x1024 .f32) : Vec F S256x2048 .f32 :=
  k0_pay1 (convBranch i x0 x1 x2 x3 x9 s) (k0_pay10 x4 x10) (k0_pay11 x5) x6 x7 x11

/-- The same block, normalised row by row for the layer that follows. -/
def hnBlock (i : grid0.Coords) (x0 : Vec F S256x1024 .bf16) (x1 : Vec F S256x1024 .bf16) (x2 : Vec F S256x1024 .bf16) (x3 : Vec F S3x1024 .f32) (x4 : Vec F S256x1024 .bf16) (x5 : Vec F S256x2048 .bf16) (x6 : Vec F S256x2048 .bf16) (x7 : Vec F S256x2048 .f32) (x8 : Vec F S1x2048 .f32) (x9 : Vec F S1024x2048 .bf16) (x10 : Vec F S1024x2048 .bf16) (x11 : Vec F S2048x2048 .bf16) (x12 : Vec F S64x5632 .f32) (x13 : Vec F S64x5632 .f32) (x14 : Vec F S176x2048 .f32) (s : Vec F S8x1024 .f32) : Vec F S256x2048 .bf16 :=
  k0_pay2 (convBranch i x0 x1 x2 x3 x9 s) (k0_pay10 x4 x10) (k0_pay11 x5) x6 x7 x11 x8

/-- The rows a block leaves for the next one. -/
def keptRows (x1 x2 : Vec F S256x1024 .bf16) : Vec F S8x1024 .f32 := k0_pay8 (k0_pay6 x1 x2)

set_option backward.proofsInPublic true in
set_option maxHeartbeats 1600000 in
/-- The body at any grid point: from the inputs' blocks, the outputs' buffers at anything and the scratch at `s`,
    it ends with the inputs as they were, each output at the block named above and the scratch at the rows kept. -/
theorem run (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S3x1024 .f32) (harg4 : arg4.IsWhole) (arg5 : Memref sig .tc .vmem S256x1024 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1024x2048 .bf16) (harg10 : arg10.IsWhole) (arg11 : Memref sig .tc .vmem S1024x2048 .bf16) (harg11 : arg11.IsWhole) (arg12 : Memref sig .tc .vmem S2048x2048 .bf16) (harg12 : arg12.IsWhole) (arg13 : Memref sig .tc .vmem S64x5632 .f32) (harg13 : arg13.IsWhole) (arg14 : Memref sig .tc .vmem S64x5632 .f32) (harg14 : arg14.IsWhole) (arg15 : Memref sig .tc .vmem S176x2048 .f32) (harg15 : arg15.IsWhole) (arg16 : Memref sig .tc .vmem S256x2048 .f32) (harg16 : arg16.IsWhole) (arg17 : Memref sig .tc .vmem S256x2048 .bf16) (harg17 : arg17.IsWhole) (arg18 : Memref sig .tc .vmem S1x2x1024 .f32) (harg18 : arg18.IsWhole) (arg19 : Memref sig .tc .vmem S64x5632 .bf16) (harg19 : arg19.IsWhole) (arg20 : Memref sig .tc .vmem S64x5632 .bf16) (harg20 : arg20.IsWhole) (arg21 : Memref sig .tc .vmem S176x2048 .bf16) (harg21 : arg21.IsWhole) (arg22 : Memref sig .tc .vmem S8x1024 .f32) (harg22 : arg22.IsWhole)
    (x0 : Vec F S256x1024 .bf16) (x1 : Vec F S256x1024 .bf16) (x2 : Vec F S256x1024 .bf16) (x3 : Vec F S3x1024 .f32) (x4 : Vec F S256x1024 .bf16) (x5 : Vec F S256x2048 .bf16) (x6 : Vec F S256x2048 .bf16) (x7 : Vec F S256x2048 .f32) (x8 : Vec F S1x2048 .f32) (x9 : Vec F S1024x2048 .bf16) (x10 : Vec F S1024x2048 .bf16) (x11 : Vec F S2048x2048 .bf16) (x12 : Vec F S64x5632 .f32) (x13 : Vec F S64x5632 .f32) (x14 : Vec F S176x2048 .f32) (s : Vec F S8x1024 .f32) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ owns (c : Thread nD τ) arg22 fullShare s
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare x13
          ∗ owns (c : Thread nD τ) arg15 fullShare x14
          ∗ owns (c : Thread nD τ) arg16 fullShare (hBlock i x0 x1 x2 x3 x4 x5 x6 x7 x8 x9 x10 x11 x12 x13 x14 s)
          ∗ owns (c : Thread nD τ) arg17 fullShare (hnBlock i x0 x1 x2 x3 x4 x5 x6 x7 x8 x9 x10 x11 x12 x13 x14 s)
          ∗ owns (c : Thread nD τ) arg18 fullShare (k0_pay7 x1 x2)
          ∗ owns (c : Thread nD τ) arg19 fullShare (k0_pay3 x12)
          ∗ owns (c : Thread nD τ) arg20 fullShare (k0_pay4 x13)
          ∗ owns (c : Thread nD τ) arg21 fullShare (k0_pay5 x14)
          ∗ owns (c : Thread nD τ) arg22 fullShare (keptRows x1 x2)) -∗ K ⟨⟩))
    ⊢ wp frame (wpE (defs₀ (F := F)) Variants.none c none) E (cc0_mix_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0_mix_prompt_eq_skeleton]; unfold cc0_mix_prompt_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg22.eq_unread hfs
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _; isplitr; · ipureintro; exact harg15.read_unread _
    iexact H14
  isplitl [H15]
  · iexists _; isplitr; swap; · iexact H15
    ipureintro; refine (read_after_whole_store _ _ _ (by decide) _).trans ?_
    (try frame_out) <;> (try rfl)
  isplitl [H16]
  · iexists _; isplitr; swap; · iexact H16
    ipureintro; refine (read_after_whole_store _ _ _ (by decide) _).trans ?_
    (try frame_out) <;> (try rfl)
  isplitl [H17]
  · iexists _; isplitr; swap; · iexact H17
    ipureintro; refine (read_after_whole_store _ _ _ (by decide) _).trans ?_
    (try frame_out) <;> (try rfl)
  isplitl [H18]
  · iexists _; isplitr; swap; · iexact H18
    ipureintro; refine (read_after_whole_store _ _ _ (by decide) _).trans ?_
    (try frame_out) <;> (try rfl)
  isplitl [H19]
  · iexists _; isplitr; swap; · iexact H19
    ipureintro; refine (read_after_whole_store _ _ _ (by decide) _).trans ?_
    (try frame_out) <;> (try rfl)
  isplitl [H20]
  · iexists _; isplitr; swap; · iexact H20
    ipureintro; refine (read_after_whole_store _ _ _ (by decide) _).trans ?_
    (try frame_out) <;> (try rfl)
  iexists _; isplitr; swap; · iexact HS
  ipureintro; refine (read_after_whole_store _ _ _ (by decide) _).trans ?_
  (try frame_out) <;> (try rfl)

end Cert.Proof.MixRun

end
-- ==== Proof.MixFrame.lean ====
module

public import proofs.«01_k».proof.Proof.MixRun

@[expose] public section

set_option maxRecDepth 16384

noncomputable section

namespace Cert.Proof.MixFrame

open Cert.MixIdeal Cert.MixIdeal.Gen Cert.Proof.MixRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The mixing kernel's run over its whole grid

Point `t` works on rows `256·t` to `256·t + 255`; the scratch holds what point `t - 1` left. -/

/-- Each window's staging buffer at a point, and that it is a whole buffer. -/
abbrev ms0_0 (t : Fin cfg0.N) : Memref sig .tc .vmem S256x1024 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S3x1024 .f32 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
theorem hs0_6 (t : Fin cfg0.N) : (ms0_6 t).IsWhole := hstage0_6 ((cfg0.slots t 6).cast nbuf0_6)
abbrev ms0_7 (t : Fin cfg0.N) : Memref sig .tc .vmem S256x2048 .f32 := win0_7.stage (cfg0.slots t 7)
theorem hs0_7 (t : Fin cfg0.N) : (ms0_7 t).IsWhole := hstage0_7 ((cfg0.slots t 7).cast nbuf0_7)
abbrev ms0_8 (t : Fin cfg0.N) : Memref sig .tc .vmem S1x2048 .f32 := win0_8.stage (cfg0.slots t 8)
theorem hs0_8 (t : Fin cfg0.N) : (ms0_8 t).IsWhole := hstage0_8 ((cfg0.slots t 8).cast nbuf0_8)
abbrev ms0_9 (t : Fin cfg0.N) : Memref sig .tc .vmem S1024x2048 .bf16 := win0_9.stage (cfg0.slots t 9)
theorem hs0_9 (t : Fin cfg0.N) : (ms0_9 t).IsWhole := hstage0_9 ((cfg0.slots t 9).cast nbuf0_9)
abbrev ms0_10 (t : Fin cfg0.N) : Memref sig .tc .vmem S1024x2048 .bf16 := win0_10.stage (cfg0.slots t 10)
theorem hs0_10 (t : Fin cfg0.N) : (ms0_10 t).IsWhole := hstage0_10 ((cfg0.slots t 10).cast nbuf0_10)
abbrev ms0_11 (t : Fin cfg0.N) : Memref sig .tc .vmem S2048x2048 .bf16 := win0_11.stage (cfg0.slots t 11)
theorem hs0_11 (t : Fin cfg0.N) : (ms0_11 t).IsWhole := hstage0_11 ((cfg0.slots t 11).cast nbuf0_11)
abbrev ms0_12 (t : Fin cfg0.N) : Memref sig .tc .vmem S64x5632 .f32 := win0_12.stage (cfg0.slots t 12)
theorem hs0_12 (t : Fin cfg0.N) : (ms0_12 t).IsWhole := hstage0_12 ((cfg0.slots t 12).cast nbuf0_12)
abbrev ms0_13 (t : Fin cfg0.N) : Memref sig .tc .vmem S64x5632 .f32 := win0_13.stage (cfg0.slots t 13)
theorem hs0_13 (t : Fin cfg0.N) : (ms0_13 t).IsWhole := hstage0_13 ((cfg0.slots t 13).cast nbuf0_13)
abbrev ms0_14 (t : Fin cfg0.N) : Memref sig .tc .vmem S176x2048 .f32 := win0_14.stage (cfg0.slots t 14)
theorem hs0_14 (t : Fin cfg0.N) : (ms0_14 t).IsWhole := hstage0_14 ((cfg0.slots t 14).cast nbuf0_14)
abbrev ms0_15 (t : Fin cfg0.N) : Memref sig .tc .vmem S256x2048 .f32 := win0_15.stage (cfg0.slots t 15)
theorem hs0_15 (t : Fin cfg0.N) : (ms0_15 t).IsWhole := hstage0_15 ((cfg0.slots t 15).cast nbuf0_15)
abbrev ms0_16 (t : Fin cfg0.N) : Memref sig .tc .vmem S256x2048 .bf16 := win0_16.stage (cfg0.slots t 16)
theorem hs0_16 (t : Fin cfg0.N) : (ms0_16 t).IsWhole := hstage0_16 ((cfg0.slots t 16).cast nbuf0_16)
abbrev ms0_17 (t : Fin cfg0.N) : Memref sig .tc .vmem S1x2x1024 .f32 := win0_17.stage (cfg0.slots t 17)
theorem hs0_17 (t : Fin cfg0.N) : (ms0_17 t).IsWhole := hstage0_17 ((cfg0.slots t 17).cast nbuf0_17)
abbrev ms0_18 (t : Fin cfg0.N) : Memref sig .tc .vmem S64x5632 .bf16 := win0_18.stage (cfg0.slots t 18)
theorem hs0_18 (t : Fin cfg0.N) : (ms0_18 t).IsWhole := hstage0_18 ((cfg0.slots t 18).cast nbuf0_18)
abbrev ms0_19 (t : Fin cfg0.N) : Memref sig .tc .vmem S64x5632 .bf16 := win0_19.stage (cfg0.slots t 19)
theorem hs0_19 (t : Fin cfg0.N) : (ms0_19 t).IsWhole := hstage0_19 ((cfg0.slots t 19).cast nbuf0_19)
abbrev ms0_20 (t : Fin cfg0.N) : Memref sig .tc .vmem S176x2048 .bf16 := win0_20.stage (cfg0.slots t 20)
theorem hs0_20 (t : Fin cfg0.N) : (ms0_20 t).IsWhole := hstage0_20 ((cfg0.slots t 20).cast nbuf0_20)

/-- The scratch buffer of kept rows. -/
abbrev scM : Memref sig .tc .vmem S8x1024 .f32 := Memref.whole cc0_scratch0

/-- The region's invariant with the scratch buffer named. -/
theorem scoped_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The rows point `t` leaves in the scratch. -/
def keptAfter (c : Dev nD) (t : Fin cfg0.N) : Vec F S8x1024 .f32 := keptRows (X0_1 m c t) (X0_2 m c t)

/-- The rows point `t` finds there: what the point before left (and, where no point came before, any rows do). -/
def keptBefore (c : Dev nD) (t : Fin cfg0.N) : Vec F S8x1024 .f32 :=
  keptAfter m c ⟨t.val - 1, Nat.lt_of_le_of_lt (Nat.sub_le _ _) t.isLt⟩

/-- The first point begins a sequence. -/
theorem firstBlock_zero : ∀ t : Fin cfg0.N, t.val = 0 → firstBlock (grid0.coords t) = 1#1 :=
  (by decide +kernel : ∀ t : Fin grid0.N, t.val = 0 → firstBlock (grid0.coords t) = 1#1)

/-- Where a sequence begins, the kept rows do not enter. -/
theorem convBranch_first {i : grid0.Coords} (hi : firstBlock i = 1#1) (x0 x1 x2 : Vec F S256x1024 .bf16)
    (x3 : Vec F S3x1024 .f32) (x9 : Vec F S1024x2048 .bf16) (s s' : Vec F S8x1024 .f32) :
    convBranch i x0 x1 x2 x3 x9 s = convBranch i x0 x1 x2 x3 x9 s' := by
  unfold convBranch k0_pay9; rw [hi]; rfl

theorem hBlock_first {i : grid0.Coords} (hi : firstBlock i = 1#1) (x0 : Vec F S256x1024 .bf16) (x1 : Vec F S256x1024 .bf16) (x2 : Vec F S256x1024 .bf16) (x3 : Vec F S3x1024 .f32) (x4 : Vec F S256x1024 .bf16) (x5 : Vec F S256x2048 .bf16) (x6 : Vec F S256x2048 .bf16) (x7 : Vec F S256x2048 .f32) (x8 : Vec F S1x2048 .f32) (x9 : Vec F S1024x2048 .bf16) (x10 : Vec F S1024x2048 .bf16) (x11 : Vec F S2048x2048 .bf16) (x12 : Vec F S64x5632 .f32) (x13 : Vec F S64x5632 .f32) (x14 : Vec F S176x2048 .f32) (s s' : Vec F S8x1024 .f32) :
    hBlock i x0 x1 x2 x3 x4 x5 x6 x7 x8 x9 x10 x11 x12 x13 x14 s = hBlock i x0 x1 x2 x3 x4 x5 x6 x7 x8 x9 x10 x11 x12 x13 x14 s' := by
  unfold hBlock; rw [convBranch_first hi _ _ _ _ _ s s']

theorem hnBlock_first {i : grid0.Coords} (hi : firstBlock i = 1#1) (x0 : Vec F S256x1024 .bf16) (x1 : Vec F S256x1024 .bf16) (x2 : Vec F S256x1024 .bf16) (x3 : Vec F S3x1024 .f32) (x4 : Vec F S256x1024 .bf16) (x5 : Vec F S256x2048 .bf16) (x6 : Vec F S256x2048 .bf16) (x7 : Vec F S256x2048 .f32) (x8 : Vec F S1x2048 .f32) (x9 : Vec F S1024x2048 .bf16) (x10 : Vec F S1024x2048 .bf16) (x11 : Vec F S2048x2048 .bf16) (x12 : Vec F S64x5632 .f32) (x13 : Vec F S64x5632 .f32) (x14 : Vec F S176x2048 .f32) (s s' : Vec F S8x1024 .f32) :
    hnBlock i x0 x1 x2 x3 x4 x5 x6 x7 x8 x9 x10 x11 x12 x13 x14 s = hnBlock i x0 x1 x2 x3 x4 x5 x6 x7 x8 x9 x10 x11 x12 x13 x14 s' := by
  unfold hnBlock; rw [convBranch_first hi _ _ _ _ _ s s']

/-- What is held besides the windows before point `n`: at first the scratch at anything, later at what the point
    before left. -/
def PhiS (c : Dev nD) : (n : ℕ) → n ≤ cfg0.N → sProp 𝕄
  | 0, _ => Pipeline.ΦA spec0 c
  | n + 1, h => iprop(iprop(owns (c : Thread nD τ) scM fullShare (keptAfter m c ⟨n, h⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (h : n + 1 ≤ cfg0.N) :
    PhiS m c (n + 1) h = iprop(iprop(owns (c : Thread nD τ) scM fullShare (keptAfter m c ⟨n, h⟩)) ∗ (∃ r, prngReg c r)) := rfl

theorem PhiS_pos (c : Dev nD) (n : ℕ) (h : n ≤ cfg0.N) (hz : n ≠ 0) :
    PhiS m c n h = iprop(iprop(owns (c : Thread nD τ) scM fullShare (keptAfter m c ⟨n - 1, by omega⟩)) ∗ (∃ r, prngReg c r)) := by
  cases n with
  | zero => exact absurd rfl hz
  | succ n => rfl

/-- What each buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => hBlock (grid0.coords t) (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) (keptBefore m c t)
    | ⟨16, _⟩ => hnBlock (grid0.coords t) (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) (keptBefore m c t)
    | ⟨17, _⟩ => k0_pay7 (X0_1 m c t) (X0_2 m c t)
    | ⟨18, _⟩ => k0_pay3 (iblk m c 12 t)
    | ⟨19, _⟩ => k0_pay4 (iblk m c 13 t)
    | ⟨20, _⟩ => k0_pay5 (iblk m c 14 t)
    | ⟨_ + 21, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_before (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = hBlock (grid0.coords t) (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) (keptBefore m c t) := by dsimp only [dats]
theorem after0_16 (c : Dev nD) (t : Fin cfg0.N) : (dats m 0 c).after 16 t = hnBlock (grid0.coords t) (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) (keptBefore m c t) := by dsimp only [dats]
theorem after0_17 (c : Dev nD) (t : Fin cfg0.N) : (dats m 0 c).after 17 t = k0_pay7 (X0_1 m c t) (X0_2 m c t) := by dsimp only [dats]
theorem after0_18 (c : Dev nD) (t : Fin cfg0.N) : (dats m 0 c).after 18 t = k0_pay3 (iblk m c 12 t) := by dsimp only [dats]
theorem after0_19 (c : Dev nD) (t : Fin cfg0.N) : (dats m 0 c).after 19 t = k0_pay4 (iblk m c 13 t) := by dsimp only [dats]
theorem after0_20 (c : Dev nD) (t : Fin cfg0.N) : (dats m 0 c).after 20 t = k0_pay5 (iblk m c 14 t) := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-- What the body at point `t` is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 3200000 in
/-- The body at every point keeps the invariant and leaves each buffer as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ, Phi_before m c t]
  by_cases hz : t.val = 0
  · have h0 := firstBlock_zero t hz
    rw [PhiS_zero m c _ _ hz, scoped_eq]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    rw [hBlock_first h0 (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) _ s, hnBlock_first h0 (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) _ s]
    iapply (run c (grid0.coords t) _ _ _ _ _ _ _ _ _ _ _ _ _ _ _ _ _ _ _ _ _ _ _ _ _ _ _ _ _ _ _ _ _ _ _ _ _ _ _ _ _ _ _ _ (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, H15, H16, H17, H18, H19, H20, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [PhiS_pos m c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
    iapply (run c (grid0.coords t) _ _ _ _ _ _ _ _ _ _ _ _ _ _ _ _ _ _ _ _ _ _ _ _ _ _ _ _ _ _ _ _ _ _ _ _ _ _ _ _ _ _ _ _ (X0_0 m c t) (X0_1 m c t) (X0_2 m c t) (iblk m c 3 t) (iblk m c 4 t) (X0_5 m c t) (X0_6 m c t) (iblk m c 7 t) (iblk m c 8 t) (iblk m c 9 t) (iblk m c 10 t) (iblk m c 11 t) (iblk m c 12 t) (iblk m c 13 t) (iblk m c 14 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [HS]; · iexact HS
    iintro ⟨H0, H1, H2, H3, H4, H5, H6, H7, H8, H9, H10, H11, H12, H13, H14, H15, H16, H17, H18, H19, H20, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- The invariant holds when the region is entered, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and gives the region's buffers back when it is left. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scoped_eq]
  iintro ⟨HS, Hg⟩
  isplitl [HS]
  · iexists _; iexact HS
  iexact Hg

set_option backward.isDefEq.respectTransparency.types false in
/-- Every execution of the program ends, with the arrays at what the points wrote and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_main_quiescent m ρ))

end Cert.Proof.MixFrame

end
-- ==== Proof.FfnRun.lean ====
module

public import Idealize.ShloMosaic.Lib.WritesUnit
public import proofs.«01_k».proof.Proof.Gen.FfnIdeal.Frame
public import proofs.«01_k».proof.Proof.Gen.FfnIdeal.Skeleton
public import proofs.«01_k».proof.Proof.WholeStore

@[expose] public section

set_option maxRecDepth 16384

noncomputable section

namespace Cert.Proof.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One grid point of the feed-forward kernel

A point works on 1024 rows and one block of 512 hidden columns: it adds that block's contribution to the output
rows, which start from the residual stream at the first block; after the last block the rows are normalised in
place, 256 at a time. -/

/-- Row blocks of 256 rows lie inside the 1024 rows. -/
theorem rows_inb (q : Fin k0_t1_loop.trips) : ∀ a, k0_off1 q a + S256x2048.size a ≤ S1024x2048.size a := by
  have hq : q.val < 4 := Nat.lt_of_lt_of_le q.isLt k0_t1_abs.2.1
  intro a
  rw [k0_off1_eq]
  fin_cases a
  · show 256 * q.val + 256 ≤ 1024; omega
  · show 0 + 2048 ≤ 2048; omega

/-- The rectangle of row block `q`. -/
abbrev rows (q : Fin k0_t1_loop.trips) : Rect S1024x2048 := Rect.unit (k0_off1 q) S256x2048.size (rows_inb q)

/-- The stores of the first `k` trips of the normalisation: each row block of `Y`, normalised. -/
def normPieces (g : Vec F S1x2048 .f32) (Y : Vec F S1024x2048 .f32) : ℕ → List (View.Piece (Elt F) S1024x2048 .f32)
  | 0 => []
  | k + 1 =>
    if h : k < k0_t1_loop.trips then
      (⟨rows ⟨k, h⟩, k0_pay2 (View.ld Y (rows ⟨k, h⟩)) g⟩ : View.Piece (Elt F) S1024x2048 .f32) :: normPieces g Y k
    else normPieces g Y k

theorem normPieces_succ (g : Vec F S1x2048 .f32) (Y : Vec F S1024x2048 .f32) (k : Fin k0_t1_loop.trips) :
    normPieces g Y (k.val + 1)
      = (⟨rows k, k0_pay2 (View.ld Y (rows k)) g⟩ : View.Piece (Elt F) S1024x2048 .f32) :: normPieces g Y k.val := by
  rw [normPieces]; exact dif_pos k.isLt

/-- The first `k` trips leave every later row as it was. -/
theorem read_normPieces_later (v : View sig .tc .vmem S1024x2048 .f32) (G : v.ty.Contents (Elt F)) (g : Vec F S1x2048 .f32)
    (Y : Vec F S1024x2048 .f32) (y : S1024x2048.Idx) : ∀ k : ℕ, 256 * k ≤ (y (0 : Fin 2)).val →
      v.read (Elt F) (v.writes (Elt F) G (normPieces g Y k)) y = v.read (Elt F) G y
  | 0, _ => rfl
  | k + 1, h => by
    rw [normPieces]
    split
    · refine (View.read_writes_cons_rows_of_not_mem v G (o := 256 * k) (W := 256) _ _ _ y (k0_off1_eq _) rfl (Or.inr (by omega))).trans ?_
      exact read_normPieces_later v G g Y y k (by omega)
    · exact read_normPieces_later v G g Y y k (by omega)

/-- So a trip finds its own row block as it was before the normalisation began. -/
theorem ld_normPieces (v : View sig .tc .vmem S1024x2048 .f32) (G : v.ty.Contents (Elt F)) (g : Vec F S1x2048 .f32)
    (Y : Vec F S1024x2048 .f32) (k : Fin k0_t1_loop.trips) :
    View.ld (v.read (Elt F) (v.writes (Elt F) G (normPieces g Y k.val))) (rows k) = View.ld (v.read (Elt F) G) (rows k) := by
  funext x
  refine read_normPieces_later v G g Y _ k.val ?_
  show 256 * k.val ≤ k0_off1 k 0 + 1 * (x 0).val
  rw [k0_off1_eq]
  exact Nat.le_add_right _ _

theorem mem_normPieces (g : Vec F S1x2048 .f32) (Y : Vec F S1024x2048 .f32) (q : Fin k0_t1_loop.trips) : ∀ k : ℕ, q.val < k →
    (⟨rows q, k0_pay2 (View.ld Y (rows q)) g⟩ : View.Piece (Elt F) S1024x2048 .f32) ∈ normPieces g Y k
  | 0, h => absurd h (Nat.not_lt_zero _)
  | k + 1, h => by
    rw [normPieces]
    split
    next hk =>
      rcases Nat.lt_succ_iff_lt_or_eq.mp h with h' | h'
      · exact List.mem_cons_of_mem _ (mem_normPieces g Y q k h')
      · subst h'; exact List.mem_cons_self
    next hk => exact mem_normPieces g Y q k (by have := q.isLt; omega)

/-- Four trips there are. -/
theorem trips_eq : k0_t1_loop.trips = 4 := by decide +kernel

/-- The row blocks of all trips cover the rows. -/
theorem normPieces_cover (g : Vec F S1x2048 .f32) (Y : Vec F S1024x2048 .f32) (y : S1024x2048.Idx) :
    ∃ p ∈ normPieces g Y k0_t1_loop.trips, y ∈ p.1.set := by
  have h0 : (y (0 : Fin 2)).val < 1024 := (y 0).isLt
  have h1 : (y (1 : Fin 2)).val < 2048 := (y 1).isLt
  have hq : (y (0 : Fin 2)).val / 256 < k0_t1_loop.trips := by rw [trips_eq]; omega
  refine ⟨_, mem_normPieces g Y ⟨(y (0 : Fin 2)).val / 256, hq⟩ _ hq, ?_⟩
  refine (Rect.mem_set_unit (inb := rows_inb _)).mpr fun a => ?_
  rw [k0_off1_eq]
  fin_cases a
  · show 256 * ((y (0 : Fin 2)).val / 256) ≤ (y (0 : Fin 2)).val ∧ (y (0 : Fin 2)).val < 256 * ((y (0 : Fin 2)).val / 256) + 256
    omega
  · show 0 ≤ (y (1 : Fin 2)).val ∧ (y (1 : Fin 2)).val < 0 + 2048
    omega

/-- A block of 1024 rows with every row block normalised. -/
def normAll (g : Vec F S1x2048 .f32) (Y : Vec F S1024x2048 .f32) : Vec F S1024x2048 .f32 :=
  View.canon (normPieces g Y k0_t1_loop.trips)

theorem read_norm_eq (v : View sig .tc .vmem S1024x2048 .f32) (f : v.ty.Contents (Elt F)) (g : Vec F S1x2048 .f32)
    (Y : Vec F S1024x2048 .f32) :
    v.read (Elt F) (v.writes (Elt F) f (normPieces g Y k0_t1_loop.trips)) = normAll g Y :=
  View.read_writes_eq_canon v f _ (normPieces_cover g Y)

/-- What the point leaves: the accumulated rows, normalised at the last block of hidden columns. -/
def outBlock (i : grid0.Coords) (x0 : Vec F S1024x2048 .bf16) (x1 : Vec F S1024x2048 .f32) (x2 : Vec F S1x2048 .f32) (x3 : Vec F S2048x512 .bf16) (x4 : Vec F S2048x512 .bf16) (x5 : Vec F S512x2048 .bf16) (y : Vec F S1024x2048 .f32) : Vec F S1024x2048 .f32 :=
  if k0_cond1 i = 1#1 then normAll x2 (k0_pay1 i x0 x3 x4 x1 y x5) else k0_pay1 i x0 x3 x4 x1 y x5

/-- What is held before trip `k` of the normalisation: the weights, and the rows with `k` row blocks done. -/
abbrev normInv (c : Dev nD) (arg4 : Memref sig .tc .vmem S1x2048 .f32) (arg8 : Memref sig .tc .vmem S1024x2048 .f32)
    (X : BufTy.Contents (Elt F) arg4.view.ty) (G : BufTy.Contents (Elt F) arg8.view.ty) (k : ℕ) (_ : Unit) : sProp 𝕄 :=
  iprop((arg4.view.loc (c : Thread nD τ) ↦[arg4.view.set]{fullShare} X)
    ∗ (∃ f, (arg8.view.loc (c : Thread nD τ) ↦[arg8.view.set]{fullShare} f)
      ∗ ⌜f = arg8.view.writes (Elt F) G (normPieces (arg4.view.read (Elt F) X) (arg8.view.read (Elt F) G) k)⌝))

set_option warn.classDefReducibility false in
set_option backward.proofsInPublic true in
/-- The normalisation's loop by that invariant. -/
@[sl_loop] def normLoop (c : Dev nD) (E : Set ℕ) (i : grid0.Coords) (arg2 : Memref sig .tc .vmem S1024x2048 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (hi : k0_cond1 i = 1#1)
    (X : BufTy.Contents (Elt F) arg4.view.ty) (G : BufTy.Contents (Elt F) arg8.view.ty) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i hi) () (k0_t1_body (F := F) i arg2 harg2 arg3 harg3 arg4 harg4 arg5 harg5 arg6 harg6 arg7 harg7 arg8 harg8 hi) where
  inv := normInv c arg4 arg8 X G
  step k acc := by
    have hk : k.val < 4 := Nat.lt_of_lt_of_le k.isLt k0_t1_abs.2.1
    unfold k0_t1_body
    iintro ⟨HX, ⟨%f, HY, %hf⟩⟩
    sl_exec
    sl_step
    isplitl [HX]; · iexact HX
    iexists _; isplitl [HY]; · iexact HY
    ipureintro
    have e1 : View.readAt (Elt F) arg8.view (rows k).toLoadRect f = View.ld (arg8.view.read (Elt F) G) (rows k) := by
      rw [hf]; exact ld_normPieces arg8.view G _ _ k
    have e2 : View.readAt (Elt F) arg4.view
        (Rect.unit (s := S1x2048) ![0, 0] S1x2048.size inb_S1x2048_S1x2048_0_0).toLoadRect X = arg4.view.read (Elt F) X := by
      rw [View.readAt_eq_ld]; exact View.ld_unit_lit' _ _ (by decide)
    refine Eq.trans (b := arg8.view.writes (Elt F) f
      [(⟨rows k, k0_pay2 (View.ld (arg8.view.read (Elt F) G) (rows k)) (arg4.view.read (Elt F) X)⟩ :
        View.Piece (Elt F) S1024x2048 .f32)]) ?_ ?_
    · rw [← e1, ← e2]
    · rw [hf, ← View.writes_append]
      exact congrArg (arg8.view.writes (Elt F) G) (normPieces_succ _ _ k).symm

set_option backward.proofsInPublic true in
set_option maxHeartbeats 1600000 in
/-- The body at any grid point. -/
theorem run (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole)
    (x0 : Vec F S1024x2048 .bf16) (x1 : Vec F S1024x2048 .f32) (x2 : Vec F S1x2048 .f32) (x3 : Vec F S2048x512 .bf16) (x4 : Vec F S2048x512 .bf16) (x5 : Vec F S512x2048 .bf16) (y : Vec F S1024x2048 .f32) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ owns (c : Thread nD τ) arg8 fullShare y
      ∗ (iprop(owns (c : Thread nD τ) arg2 fullShare x0
          ∗ owns (c : Thread nD τ) arg3 fullShare x1
          ∗ owns (c : Thread nD τ) arg4 fullShare x2
          ∗ owns (c : Thread nD τ) arg5 fullShare x3
          ∗ owns (c : Thread nD τ) arg6 fullShare x4
          ∗ owns (c : Thread nD τ) arg7 fullShare x5
          ∗ owns (c : Thread nD τ) arg8 fullShare (outBlock i x0 x1 x2 x3 x4 x5 y)) -∗ K ⟨⟩))
    ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  by_cases hi : k0_cond1 i = 1#1
  · have ho : outBlock i x0 x1 x2 x3 x4 x5 y = normAll x2 (k0_pay1 i x0 x3 x4 x1 y x5) := by unfold outBlock; exact if_pos hi
    rw [ho]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; swap; · iexact H6
    ipureintro
    rw [View.writes_append]
    refine (read_norm_eq arg8.view _ _ _).trans ?_
    have e2 : View.read (Elt F) arg4.view (harg4.unread x2) = x2 := harg4.read_unread x2
    rw [e2]
    refine congrArg (normAll x2) ?_
    refine (read_after_whole_store _ _ _ (by decide) _).trans ?_
    (try frame_out) <;> (try rfl)
  · have ho : outBlock i x0 x1 x2 x3 x4 x5 y = k0_pay1 i x0 x3 x4 x1 y x5 := by unfold outBlock; exact if_neg hi
    rw [ho]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; swap; · iexact H6
    ipureintro
    refine (read_after_whole_store _ _ _ (by decide) _).trans ?_
    (try frame_out) <;> (try rfl)

end Cert.Proof.FfnRun

end
-- ==== Proof.FfnFrame.lean ====
module

public import proofs.«01_k».proof.Proof.FfnRun

@[expose] public section

set_option maxRecDepth 16384

noncomputable section

namespace Cert.Proof.FfnFrame

open Cert.FfnIdeal Cert.FfnIdeal.Gen Cert.Proof.FfnRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The feed-forward kernel's run over its whole grid

Point `t` works on rows `1024·(t / 11)` onwards and on hidden columns `512·(t % 11)` onwards; the output's rows
stay in their buffer over the eleven points of a row block. -/

/-- Each window's staging buffer at a point, and that it is a whole buffer. -/
abbrev ms0_0 (t : Fin cfg0.N) : Memref sig .tc .vmem S1024x2048 .bf16 := win0_0.stage (cfg0.slots t 0)
theorem hs0_0 (t : Fin cfg0.N) : (ms0_0 t).IsWhole := hstage0_0 ((cfg0.slots t 0).cast nbuf0_0)
abbrev ms0_1 (t : Fin cfg0.N) : Memref sig .tc .vmem S1024x2048 .f32 := win0_1.stage (cfg0.slots t 1)
theorem hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
theorem hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
theorem hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
theorem hs0_4 (t : Fin cfg0.N) : (ms0_4 t).IsWhole := hstage0_4 ((cfg0.slots t 4).cast nbuf0_4)
abbrev ms0_5 (t : Fin cfg0.N) : Memref sig .tc .vmem S512x2048 .bf16 := win0_5.stage (cfg0.slots t 5)
theorem hs0_5 (t : Fin cfg0.N) : (ms0_5 t).IsWhole := hstage0_5 ((cfg0.slots t 5).cast nbuf0_5)
abbrev ms0_6 (t : Fin cfg0.N) : Memref sig .tc .vmem S1024x2048 .f32 := win0_6.stage (cfg0.slots t 6)
theorem hs0_6 (t : Fin cfg0.N) : (ms0_6 t).IsWhole := hstage0_6 ((cfg0.slots t 6).cast nbuf0_6)

/-- What point `t` leaves in the output's buffer when it finds `y` there. -/
def pointOut (c : Dev nD) (t : Fin cfg0.N) (y : Vec F S1024x2048 .f32) : Vec F S1024x2048 .f32 :=
  outBlock (grid0.coords t) (iblk m c 0 t) (iblk m c 1 t) (iblk m c 2 t) (iblk m c 3 t) (iblk m c 4 t) (iblk m c 5 t) y

/-- The output's buffer after point `n`: the points one after the other, the first from any contents. -/
def rowsAfter (c : Dev nD) : (n : ℕ) → n < cfg0.N → Vec F S1024x2048 .f32
  | 0, h => pointOut m c ⟨0, h⟩ (iblk m c 1 ⟨0, h⟩)
  | n + 1, h => pointOut m c ⟨n + 1, h⟩ (rowsAfter c n (Nat.lt_of_succ_lt h))

/-- At the first block of hidden columns what the buffer held does not enter. -/
theorem outBlock_first {i : grid0.Coords} (hi : Scalar.cmpi .eq (BitVec.ofNat 32 (i 1).val) 0#32 = 1#1)
    (x0 : Vec F S1024x2048 .bf16) (x1 : Vec F S1024x2048 .f32) (x2 : Vec F S1x2048 .f32) (x3 : Vec F S2048x512 .bf16) (x4 : Vec F S2048x512 .bf16) (x5 : Vec F S512x2048 .bf16) (y y' : Vec F S1024x2048 .f32) :
    outBlock i x0 x1 x2 x3 x4 x5 y = outBlock i x0 x1 x2 x3 x4 x5 y' := by
  have h : k0_pay1 i x0 x3 x4 x1 y x5 = k0_pay1 i x0 x3 x4 x1 y' x5 := by unfold k0_pay1; dsimp only; rw [hi]; rfl
  unfold outBlock; rw [h]

theorem first_column : ∀ t : Fin cfg0.N, t.val % 11 = 0 →
    Scalar.cmpi .eq (BitVec.ofNat 32 (grid0.coords t 1).val) 0#32 = 1#1 :=
  (by decide +kernel : ∀ t : Fin grid0.N, t.val % 11 = 0 →
    Scalar.cmpi .eq (BitVec.ofNat 32 (grid0.coords t 1).val) 0#32 = 1#1)

/-- After a point at the first block of hidden columns, whatever it found. -/
theorem rowsAfter_first (c : Dev nD) (t : Fin cfg0.N) (h : t.val % 11 = 0) (y : Vec F S1024x2048 .f32) :
    rowsAfter m c t.val t.isLt = pointOut m c t y := by
  obtain ⟨n, hn⟩ := t
  cases n with
  | zero => exact outBlock_first (first_column _ h) _ _ _ _ _ _ _ _
  | succ n => exact outBlock_first (first_column ⟨n + 1, hn⟩ h) _ _ _ _ _ _ _ _

/-- After any later point, from what the point before left. -/
theorem rowsAfter_later (c : Dev nD) (t : Fin cfg0.N) (h : t.val ≠ 0) :
    rowsAfter m c t.val t.isLt = pointOut m c t (rowsAfter m c (t.val - 1) (by omega)) := by
  obtain ⟨n, hn⟩ := t
  cases n with
  | zero => exact absurd rfl h
  | succ n => rfl

/-- What each buffer holds after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = rowsAfter m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the first block of hidden columns the output's buffer holds what the point before left. -/
theorem before0_6 (c : Dev nD) (t : Fin cfg0.N) (h : t.val % 11 ≠ 0) (d) :
    (dats m 0 c).before 6 t d = rowsAfter m c (t.val - 1) (by have := t.isLt; omega) := by
  rw [Dat.before_out_kept _ 6 rfl t (by omega) (Bool.eq_false_iff.mpr fun h' => by
    have := (flush0_6 _).mp h'; dsimp only at this; omega) (fun _ => rfl) (fun _ _ => rfl)]
  dsimp only [dats]

/-- So whatever the buffer is handed over with, the point leaves `rowsAfter`. -/
theorem pointOut_before (c : Dev nD) (t : Fin cfg0.N) (d) :
    pointOut m c t ((dats m 0 c).before 6 t d) = rowsAfter m c t.val t.isLt := by
  by_cases h : t.val % 11 = 0
  · exact (rowsAfter_first m c t h _).symm
  · rw [before0_6 m c t h d]
    exact (rowsAfter_later m c t (by omega)).symm

/-- What the body at point `t` is given, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at every point keeps the invariant and leaves each buffer as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = (dats m 0 c).Φ t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← pointOut_before m c t d6]
  iapply (run c (grid0.coords t) _ _ _ _ _ _ _ _ _ _ _ _ _ _ (iblk m c 0 t) (iblk m c 1 t) (iblk m c 2 t) (iblk m c 3 t) (iblk m c 4 t) (iblk m c 5 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- Every execution of the program ends, with the arrays at what the points wrote and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

/-- The arguments end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Proof.FfnFrame

end
-- ==== Proof.BitFrames.lean ====
module

public import proofs.«01_k».proof.Defs
public import proofs.«01_k».proof.Proof.Gen.Mix
public import proofs.«01_k».proof.Proof.Gen.Ffn
public import proofs.«01_k».proof.Proof.Gen.InProjSample
public import proofs.«01_k».proof.Proof.MixFrame
public import proofs.«01_k».proof.Proof.FfnFrame
public import proofs.«01_k».proof.Proof.InProjSampleFrame

@[expose] public section

noncomputable section

/-! # The frames on float words

`MixFrame`, `FfnFrame` and `InProjSampleFrame` hold for every reading of the floats. No operation is rewritten when the
three kernels are idealized, so the kernels on words are the same programs, read at the words. -/

namespace Cert.Proof.BitFrames

open Idealize.ShloMosaic Idealize.SL.Sem

/-- The feed-forward kernel's body is the same before and after idealizing. -/
theorem body_ffn : Cert.Ffn.defs₀ (F := Bits) = Cert.FfnIdeal.defs₀ (F := Bits) := by
  unfold Cert.Ffn.defs₀ Cert.FfnIdeal.defs₀
  refine congrArg Defs.onTc (funext fun l => funext fun x => ?_)
  match l, x with
  | 0, (t, s) => rfl

theorem defs_ffn : Cert.Ffn.defs (F := Bits) = Cert.FfnIdeal.defs (F := Bits) :=
  congrArg (Pipeline.defs (Cert.FfnIdeal.pcfgs (F := Bits))) body_ffn

/-- The feed-forward kernel on words ends, with its arguments as launched and every counter at zero. -/
theorem frame_ffn : Cert.quiescent_Ffn (hFfn := Cert.Ffn.Gen.facts) := fun m ρ _ => by
  rw [defs_ffn]
  exact Cert.Proof.FfnFrame.frame (F := Bits) m ρ

set_option maxHeartbeats 2000000 in
/-- The mixing kernel's body is the same before and after idealizing. -/
theorem body_mix : Cert.Mix.defs₀ (F := Bits) = Cert.MixIdeal.defs₀ (F := Bits) := by
  unfold Cert.Mix.defs₀ Cert.MixIdeal.defs₀
  refine congrArg Defs.onTc (funext fun l => funext fun x => ?_)
  match l, x with
  | 0, (t, s) =>
    have e1 : @Cert.Mix.k0_part1 Bits _ _ = @Cert.MixIdeal.k0_part1 Bits _ _ := rfl
    have e2 : @Cert.Mix.k0_part2 Bits _ _ = @Cert.MixIdeal.k0_part2 Bits _ _ := rfl
    have e3 : @Cert.Mix.cc0_mix_prompt Bits _ _ = @Cert.MixIdeal.cc0_mix_prompt Bits _ _ := by
      unfold Cert.Mix.cc0_mix_prompt Cert.MixIdeal.cc0_mix_prompt
      rw [e1, e2]
      iterate 45 refine funext fun _ => ?_
      refine congrArg (Bind.bind _) (funext fun x => ?_)
      obtain ⟨v13, v28⟩ := x
      refine congrArg (Bind.bind _) (funext fun x => ?_)
      obtain ⟨v57, v60, v62⟩ := x
      rfl
    rw [e3]
    rfl

theorem defs_mix : Cert.Mix.defs (F := Bits) = Cert.MixIdeal.defs (F := Bits) :=
  congrArg (Pipeline.defs (Cert.MixIdeal.pcfgs (F := Bits))) body_mix

/-- The mixing kernel on words ends, with its arguments as launched and every counter at zero. -/
theorem frame_mix : Cert.quiescent_Mix (hMix := Cert.Mix.Gen.facts) := fun m ρ _ => by
  rw [defs_mix]
  exact Cert.Proof.MixFrame.frame (F := Bits) m ρ

set_option maxRecDepth 16384 in
set_option maxHeartbeats 4000000 in
/-- The body of the sample rows' input projection is the same before and after idealizing. -/
theorem body_inProjSample : Cert.InProjSample.defs₀ (F := Bits) = Cert.InProjSampleIdeal.defs₀ (F := Bits) := by
  unfold Cert.InProjSample.defs₀ Cert.InProjSampleIdeal.defs₀
  refine congrArg Defs.onTc (funext fun l => funext fun x => ?_)
  match l, x with
  | 0, (t, s) => rfl

set_option maxRecDepth 16384 in
set_option maxHeartbeats 4000000 in
theorem defs_inProjSample : Cert.InProjSample.defs (F := Bits) = Cert.InProjSampleIdeal.defs (F := Bits) :=
  congrArg (Pipeline.defs (Cert.InProjSampleIdeal.pcfgs (F := Bits))) body_inProjSample

set_option maxRecDepth 16384 in
set_option maxHeartbeats 4000000 in
/-- The sample rows' input projection on words ends, with its arguments as launched and every counter at zero. -/
theorem frame_inProjSample : Cert.quiescent_InProjSample (hInProjSample := Cert.InProjSample.Gen.facts) := fun m ρ _ => by
  rw [defs_inProjSample]
  exact Cert.Proof.InProjSampleFrame.frame (F := Bits) m ρ

end Cert.Proof.BitFrames
-- ==== Proof.MixValue.lean ====
module
public import proofs.«01_k».proof.Proof.MixFrame
public import proofs.«01_k».proof.Proof.Gen.MixReferenceIdeal.Read
public import proofs.«01_k».proof.Proof.RmsNorm
public import Idealize.ShloMosaic.Lib.Pointwise
public import Idealize.ShloMosaic.Lib.Pipeline.ValueKit
@[expose] public section
set_option maxRecDepth 16384
noncomputable section
namespace Cert.Proof.MixValue
open Cert.MixIdeal Cert.MixIdeal.Gen Cert.Proof.MixRun Cert.Proof.MixFrame
open Idealize.ShloMosaic Idealize.ShloMosaic.TcCoe Idealize.ShloMosaic.Tactic Idealize.SL.Sem
open Idealize.ShloMosaic.Pipeline (Dat)
open Cert.MixReferenceIdeal.Read

/-! # The mixing kernel's results are the reference's

The convolution looks two rows back.  A block's first two rows find those rows in the eight that the block before kept; at the
first block of a sequence the kernel puts zeros in their place, as the reference puts two zero rows before each sequence. -/

variable (m : (ℓ : Loc nD τ sig) → Buf (Elt Ideal) ℓ)

theorem idx : ∀ t : Fin cfg0.N, win0_0.index t = ![t.val, 4] ∧ win0_1.index t = ![t.val, 5] ∧ win0_2.index t = ![t.val, 6]
    ∧ win0_3.index t = ![0, 0] ∧ win0_4.index t = ![t.val, 0] ∧ win0_5.index t = ![t.val, 0] ∧ win0_6.index t = ![t.val, 1]
    ∧ win0_7.index t = ![t.val, 0] ∧ win0_8.index t = ![0, 0] ∧ win0_9.index t = ![0, 0] ∧ win0_10.index t = ![0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val / 8, 0, 0]
    ∧ win0_18.index t = ![t.val, 0] ∧ win0_19.index t = ![t.val, 0] ∧ win0_20.index t = ![t.val, 0] ∧ t.val < 32 :=
  (by decide +kernel : ∀ t : Fin grid0.N, _)

theorem firstBlock_eq : ∀ t : Fin cfg0.N, firstBlock (grid0.coords t) = (if t.val % 8 = 0 then 1#1 else 0#1) :=
  (by decide +kernel : ∀ t : Fin grid0.N, _)

/-! The blocks of `z` a point reads: three of 1024 columns and the two gates' of 2048. -/

/-- The convolution's output gate, -/
theorem z_b (c : Dev nD) (t : Fin cfg0.N) (r : Fin 256) (x : Fin 1024) (n : Fin 8192) (k : Fin 8704) (h0 : (n : ℕ) = t.val * 256 + r)
    (h1 : (k : ℕ) = 4096 + x) : X0_0 m c t (ix2 r x) = (m ((c : Thread nD τ).loc main_arg0)) (ix2 n k) := by
  unfold X0_0 Pipeline.Window.fill
  rw [dif_pos (moved0_0 t _)]
  blk_point [iblk, V, idx t]

/-- its input gate, -/
theorem z_c (c : Dev nD) (t : Fin cfg0.N) (r : Fin 256) (x : Fin 1024) (n : Fin 8192) (k : Fin 8704) (h0 : (n : ℕ) = t.val * 256 + r)
    (h1 : (k : ℕ) = 5120 + x) : X0_1 m c t (ix2 r x) = (m ((c : Thread nD τ).loc main_arg0)) (ix2 n k) := by
  unfold X0_1 Pipeline.Window.fill
  rw [dif_pos (moved0_1 t _)]
  blk_point [iblk, V, idx t]

/-- its input, -/
theorem z_h (c : Dev nD) (t : Fin cfg0.N) (r : Fin 256) (x : Fin 1024) (n : Fin 8192) (k : Fin 8704) (h0 : (n : ℕ) = t.val * 256 + r)
    (h1 : (k : ℕ) = 6144 + x) : X0_2 m c t (ix2 r x) = (m ((c : Thread nD τ).loc main_arg0)) (ix2 n k) := by
  unfold X0_2 Pipeline.Window.fill
  rw [dif_pos (moved0_2 t _)]
  blk_point [iblk, V, idx t]

/-- the convolution's gate in the mix -/
theorem z_gc (c : Dev nD) (t : Fin cfg0.N) (r : Fin 256) (x : Fin 2048) (n : Fin 8192) (k : Fin 8704) (h0 : (n : ℕ) = t.val * 256 + r)
    (h1 : (k : ℕ) = 0 + x) : X0_5 m c t (ix2 r x) = (m ((c : Thread nD τ).loc main_arg0)) (ix2 n k) := by
  unfold X0_5 Pipeline.Window.fill
  rw [dif_pos (moved0_5 t _)]
  blk_point [iblk, V, idx t]

/-- and the attention's. -/
theorem z_ga (c : Dev nD) (t : Fin cfg0.N) (r : Fin 256) (x : Fin 2048) (n : Fin 8192) (k : Fin 8704) (h0 : (n : ℕ) = t.val * 256 + r)
    (h1 : (k : ℕ) = 2048 + x) : X0_6 m c t (ix2 r x) = (m ((c : Thread nD τ).loc main_arg0)) (ix2 n k) := by
  unfold X0_6 Pipeline.Window.fill
  rw [dif_pos (moved0_6 t _)]
  blk_point [iblk, V, idx t]

/-- The rows a point keeps are the last eight of its product. -/
theorem keptRows_apply (x1 x2 : Vec Ideal S256x1024 .bf16) (r : Fin 8) (x : Fin 1024) :
    keptRows (F := Ideal) x1 x2 (ix2 r x) = (x1 (ix2 ⟨248 + r.val, by omega⟩ x) * x2 (ix2 ⟨248 + r.val, by omega⟩ x) : EReal) := by
  pointwise [keptRows, k0_pay8, k0_pay6]

/-- Row `p` of the product with the kept rows (or zeros) put before it. -/
def found (b : BitVec 1) (s : Vec Ideal S8x1024 .f32) (x1 x2 : Vec Ideal S256x1024 .bf16) (p : ℕ) (hp : p < 264) (x : Fin 1024) : EReal :=
  if h : p < 8 then Scalar.select b (0 : EReal) (s (ix2 ⟨p, h⟩ x))
  else x1 (ix2 ⟨p - 8, by omega⟩ x) * x2 (ix2 ⟨p - 8, by omega⟩ x)

/-- Row `q` of the product in the sequence of row `n`, with two zero rows put before it. -/
def padded (z : FVec Ideal Cert.MixReferenceIdeal.S8192x8704 .bf16) (n : Fin 8192) (q : ℕ) (hq : q < 2050) (x : Fin 1024) : EReal :=
  if h : q < 2 then (0 : EReal)
  else z (ix2 ⟨n.val / 2048 * 2048 + (q - 2), by omega⟩ ⟨5120 + x.val, by omega⟩)
    * z (ix2 ⟨n.val / 2048 * 2048 + (q - 2), by omega⟩ ⟨6144 + x.val, by omega⟩)

/-- The product `d` rows before a row of a block, as the kernel finds it and in the reference. -/
theorem back (c : Dev nD) (t : Fin cfg0.N) (r : Fin 256) (x : Fin 1024) (n : Fin 8192) (h0 : (n : ℕ) = t.val * 256 + r)
    (d p q : ℕ) (hp' : p < 264) (hq' : q < 2050) (hd : 1 ≤ d ∧ d ≤ 2) (hp : p + d = 8 + r) (hq : q + d = n.val % 2048 + 2) :
    found (firstBlock (grid0.coords t)) (keptBefore m c t) (X0_1 m c t) (X0_2 m c t) p hp' x = padded (m ((c : Thread nD τ).loc main_arg0)) n q hq' x := by
  have ht' : t.val < 32 := (idx t).2.2.2.2.2.2.2.2.2.2.2.2.2.2.2.2.2.2.2.2.2
  unfold found padded
  by_cases hp8 : p < 8
  · rw [dif_pos hp8, firstBlock_eq]
    by_cases ht : t.val % 8 = 0
    · rw [if_pos ht, dif_pos (by omega)]; rfl
    · rw [if_neg ht, dif_neg (by omega)]
      refine (keptRows_apply _ _ _ _).trans (congrArg₂ (· * ·) (z_c m c _ _ _ _ _ ?_ rfl) (z_h m c _ _ _ _ _ ?_ rfl)) <;>
      · dsimp only; omega
  · rw [dif_neg hp8, dif_neg (by omega)]
    refine congrArg₂ (· * ·) (z_c m c _ _ _ _ _ ?_ rfl) (z_h m c _ _ _ _ _ ?_ rfl) <;>
    · dsimp only; omega

/-- The convolution's branch of a block, -/
theorem branch_apply (i : grid0.Coords) (x0 x1 x2 : Vec Ideal S256x1024 .bf16) (x3 : Vec Ideal S3x1024 .f32) (x9 : Vec Ideal S1024x2048 .bf16)
    (s : Vec Ideal S8x1024 .f32) (y : S256x2048.Idx) : convBranch (F := Ideal) i x0 x1 x2 x3 x9 s y
      = (∑ k : Fin 1024, x0 (ix2 (y 0) k) * (((x3 (ix2 0 k) * found (firstBlock i) s x1 x2 ((8 + (y 0).val + 264 - 2) % 264) (by omega) k)
          + x3 (ix2 1 k) * found (firstBlock i) s x1 x2 ((8 + (y 0).val + 264 - 1) % 264) (by omega) k)
          + x3 (ix2 2 k) * (x1 (ix2 (y 0) k) * x2 (ix2 (y 0) k))) * x9 (ix2 k (y 1)) : EReal) := by
  pointwise [convBranch, k0_pay9, k0_pay6, tap0, tap1, tap2, found]

/-- and of the whole array in the reference. -/
theorem ref_branch_apply (z : FVec Ideal Cert.MixReferenceIdeal.S8192x8704 .bf16) (x3 : FVec Ideal Cert.MixReferenceIdeal.S3x1024 .f32)
    (x5 : FVec Ideal Cert.MixReferenceIdeal.S1024x2048 .bf16) (i : Cert.MixReferenceIdeal.S8192x2048.Idx) : val_main_v34 (F := Ideal) z x3 x5 i
      = (∑ k : Fin 1024, z (ix2 (i 0) ⟨4096 + k.val, by omega⟩) * (((x3 (ix2 0 k) * padded z (i 0) ((i 0).val % 2048) (by omega) k)
          + x3 (ix2 1 k) * padded z (i 0) (1 + (i 0).val % 2048) (by omega) k)
          + x3 (ix2 2 k) * (z (ix2 (i 0) ⟨5120 + k.val, by omega⟩) * z (ix2 (i 0) ⟨6144 + k.val, by omega⟩))) * x5 (ix2 k (i 1)) : EReal) := by
  pointwise [val_main_v34, val_main_v33, val_main_v32, val_main_v31, val_main_v29, val_main_v28, val_main_v27, val_main_v26, val_main_v25, val_main_v24, val_main_v23,
    val_main_v22, val_main_v21, val_main_v20, val_main_v19, val_main_v18, val_main_v17, val_main_v16, val_main_v15, val_main_v14, val_main_v13,
    val_main_v12, val_main_v11, val_main_v10, val_main_v9, val_main_v8, val_main_cst, val_main_v7, val_main_v6, val_main_v5, val_main_v4,
    val_main_v3, val_main_v0, padded]

/-- A block of the convolution's branch is the reference's. -/
theorem conv_point (c : Dev nD) (t : Fin cfg0.N) (y : S256x2048.Idx) (i : Cert.MixReferenceIdeal.S8192x2048.Idx)
    (h0 : (i 0 : ℕ) = t.val * 256 + y 0) (h1 : (i 1 : ℕ) = y 1) :
    convBranch (F := Ideal) (grid0.coords t) (X0_0 m c t) (X0_1 m c t) (X0_2 m c t) (iblk m c 3 t) (iblk m c 9 t) (keptBefore m c t) y
      = val_main_v34 (F := Ideal) (m ((c : Thread nD τ).loc main_arg0)) (m ((c : Thread nD τ).loc main_arg3)) (m ((c : Thread nD τ).loc main_arg5)) i := by
  rw [branch_apply, ref_branch_apply]
  have hy : (y 0).val < 256 := (y 0).isLt
  have e2 := fun k => back m c t (y 0) k (i 0) h0 2 ((8 + (y 0).val + 264 - 2) % 264) ((i 0).val % 2048) (by omega) (by omega) (by omega) (by omega) (by omega)
  have e1 := fun k => back m c t (y 0) k (i 0) h0 1 ((8 + (y 0).val + 264 - 1) % 264) (1 + (i 0).val % 2048) (by omega) (by omega) (by omega) (by omega) (by omega)
  have eb := fun k : Fin 1024 => z_b m c t (y 0) k (i 0) ⟨4096 + k.val, by omega⟩ h0 rfl
  have ec := fun k : Fin 1024 => z_c m c t (y 0) k (i 0) ⟨5120 + k.val, by omega⟩ h0 rfl
  have eh := fun k : Fin 1024 => z_h m c t (y 0) k (i 0) ⟨6144 + k.val, by omega⟩ h0 rfl
  have e3 : ∀ (a : Fin 3) (k : Fin 1024), iblk m c 3 t (ix2 a k) = (m ((c : Thread nD τ).loc main_arg3)) (ix2 a k) := fun a k => by
    blk_point [iblk, V, idx t]
  have e9 : ∀ k : Fin 1024, iblk m c 9 t (ix2 k (y 1)) = (m ((c : Thread nD τ).loc main_arg5)) (ix2 k (i 1)) := fun k => by
    blk_point [iblk, V, idx t]
  simp only [e2, e1, eb, ec, eh, e3, e9]

/-- A block of the attention's branch is the reference's. -/
theorem attn_point (c : Dev nD) (t : Fin cfg0.N) (y : S256x2048.Idx) (i : Cert.MixReferenceIdeal.S8192x2048.Idx)
    (h0 : (i 0 : ℕ) = t.val * 256 + y 0) (h1 : (i 1 : ℕ) = y 1) :
    k0_pay10 (F := Ideal) (iblk m c 4 t) (iblk m c 10 t) y = val_main_v37 (F := Ideal) (m ((c : Thread nD τ).loc main_arg1)) (m ((c : Thread nD τ).loc main_arg6)) i := by
  pointwise [k0_pay10, val_main_v37, val_main_v36, val_main_v35]
  blk_point [iblk, V, idx t]

/-- The kernel's mixed rows: the residual row plus the gated branches projected. -/
theorem pay1_apply (a b g : FVec Ideal S256x2048 .f32) (x6 : Vec Ideal S256x2048 .bf16) (x7 : Vec Ideal S256x2048 .f32)
    (x11 : Vec Ideal S2048x2048 .bf16) (y : S256x2048.Idx) : k0_pay1 (F := Ideal) a b g x6 x7 x11 y
      = (x7 y + ∑ k : Fin 2048, (Ideal.logistic (g (ix2 (y 0) k)) * a (ix2 (y 0) k)
          + Ideal.logistic (x6 (ix2 (y 0) k)) * b (ix2 (y 0) k)) * x11 (ix2 k (y 1)) : EReal) := by
  pointwise [k0_pay1]

theorem pay11_eq (x5 : Vec Ideal S256x2048 .bf16) (y : S256x2048.Idx) : (k0_pay11 (F := Ideal) x5 y : EReal) = x5 y := by
  pointwise [k0_pay11]

/-- The reference's mixed rows. -/
theorem ref_h_apply (x0 : FVec Ideal Cert.MixReferenceIdeal.S8192x8704 .bf16) (x1 : FVec Ideal Cert.MixReferenceIdeal.S8192x1024 .bf16)
    (x2 : FVec Ideal Cert.MixReferenceIdeal.S8192x2048 .f32) (x3 : FVec Ideal Cert.MixReferenceIdeal.S3x1024 .f32) (x5 x6 : FVec Ideal Cert.MixReferenceIdeal.S1024x2048 .bf16)
    (x7 : FVec Ideal Cert.MixReferenceIdeal.S2048x2048 .bf16) (i : Cert.MixReferenceIdeal.S8192x2048.Idx) :
    val_main_v55 (F := Ideal) x0 x1 x2 x3 x5 x6 x7 i
      = (x2 i + ∑ k : Fin 2048, (Ideal.logistic (x0 (ix2 (i 0) ⟨k.val, by omega⟩)) * val_main_v34 (F := Ideal) x0 x3 x5 (ix2 (i 0) k)
          + Ideal.logistic (x0 (ix2 (i 0) ⟨2048 + k.val, by omega⟩)) * val_main_v37 (F := Ideal) x1 x6 (ix2 (i 0) k)) * x7 (ix2 k (i 1)) : EReal) := by
  pointwise [val_main_v55, val_main_v54, val_main_v53, val_main_v52, val_main_v51, val_main_v50, val_main_v49, val_main_v48,
    val_main_v47, val_main_v46, val_main_v45, val_main_v44, val_main_v43, val_main_v42, val_main_v41, val_main_v40, val_main_v39,
    val_main_v38, val_main_v2, val_main_v1, val_main_v0, val_main_cst_0, val_main_cst_1, val_main_cst_2, val_main_cst_3]
  rfl

/-- A block of the mixed rows is the reference's. -/
theorem h_point (c : Dev nD) (t : Fin cfg0.N) (y : S256x2048.Idx) (i : Cert.MixReferenceIdeal.S8192x2048.Idx)
    (h0 : (i 0 : ℕ) = t.val * 256 + y 0) (h1 : (i 1 : ℕ) = y 1) :
    k0_pay1 (F := Ideal) (convBranch (grid0.coords t) (X0_0 m c t) (X0_1 m c t) (X0_2 m c t) (iblk m c 3 t) (iblk m c 9 t) (keptBefore m c t))
        (k0_pay10 (iblk m c 4 t) (iblk m c 10 t)) (k0_pay11 (X0_5 m c t)) (X0_6 m c t) (iblk m c 7 t) (iblk m c 11 t) y
      = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) i := by
  rw [pay1_apply, ref_h_apply]
  refine congrArg₂ (· + ·) (by blk_point [iblk, V, idx t]) (Finset.sum_congr rfl fun k _ => congrArg₂ (· * ·) (congrArg₂ (· + ·)
    (congrArg₂ (· * ·) (congrArg Ideal.logistic ((pay11_eq _ _).trans (z_gc m c _ _ _ _ _ h0 (by dsimp only; omega)))) (conv_point m c t _ _ h0 rfl))
    (congrArg₂ (· * ·) (congrArg Ideal.logistic (z_ga m c _ _ _ _ _ h0 rfl)) (attn_point m c t _ _ h0 rfl))) (by blk_point [iblk, V, idx t]))

/-- The kernel normalises the mixed rows, -/
theorem pay2_apply (a b g : FVec Ideal S256x2048 .f32) (x6 : Vec Ideal S256x2048 .bf16) (x7 : Vec Ideal S256x2048 .f32)
    (x11 : Vec Ideal S2048x2048 .bf16) (x8 : Vec Ideal S1x2048 .f32) (y : S256x2048.Idx) : k0_pay2 (F := Ideal) a b g x6 x7 x11 x8 y
      = normed (fun k => k0_pay1 (F := Ideal) a b g x6 x7 x11 (ix2 (y 0) k)) (k0_pay1 (F := Ideal) a b g x6 x7 x11 y) (x8 (ix2 0 (y 1))) := by
  pointwise [k0_pay2, normed]

/-- and so does the reference. -/
theorem ref_hn_apply (x0 : FVec Ideal Cert.MixReferenceIdeal.S8192x8704 .bf16) (x1 : FVec Ideal Cert.MixReferenceIdeal.S8192x1024 .bf16)
    (x2 : FVec Ideal Cert.MixReferenceIdeal.S8192x2048 .f32) (x3 : FVec Ideal Cert.MixReferenceIdeal.S3x1024 .f32) (x4 : FVec Ideal Cert.MixReferenceIdeal.S1x2048 .f32) (x5 x6 : FVec Ideal Cert.MixReferenceIdeal.S1024x2048 .bf16)
    (x7 : FVec Ideal Cert.MixReferenceIdeal.S2048x2048 .bf16) (i : Cert.MixReferenceIdeal.S8192x2048.Idx) :
    val_main_v68 (F := Ideal) x0 x1 x2 x3 x4 x5 x6 x7 i
      = normed (fun k => val_main_v55 (F := Ideal) x0 x1 x2 x3 x5 x6 x7 (ix2 (i 0) k)) (val_main_v55 (F := Ideal) x0 x1 x2 x3 x5 x6 x7 i) (x4 (ix2 0 (i 1))) := by
  pointwise [val_main_v68, val_main_v67, val_main_v66, val_main_v65, val_main_v64, val_main_v63, val_main_v62, val_main_v61, val_main_cst_6,
    val_main_v60, val_main_v59, val_main_cst_5, val_main_v58, val_main_v57, val_main_cst_4, val_main_v56, normed]

/-- A block of the normalised rows is the reference's. -/
theorem hn_point (c : Dev nD) (t : Fin cfg0.N) (y : S256x2048.Idx) (i : Cert.MixReferenceIdeal.S8192x2048.Idx)
    (h0 : (i 0 : ℕ) = t.val * 256 + y 0) (h1 : (i 1 : ℕ) = y 1) :
    k0_pay2 (F := Ideal) (convBranch (grid0.coords t) (X0_0 m c t) (X0_1 m c t) (X0_2 m c t) (iblk m c 3 t) (iblk m c 9 t) (keptBefore m c t))
        (k0_pay10 (iblk m c 4 t) (iblk m c 10 t)) (k0_pay11 (X0_5 m c t)) (X0_6 m c t) (iblk m c 7 t) (iblk m c 11 t) (iblk m c 8 t) y
      = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) i := by
  rw [pay2_apply, ref_hn_apply, h_point m c t y i h0 h1]
  have e := fun k : Fin 2048 => h_point m c t (ix2 (y 0) k) (ix2 (i 0) k) h0 rfl
  simp only [e]
  refine congrArg (normed _ _) ?_
  blk_point [iblk, V, idx t]

/-- A sequence's last block leaves the last two rows of the product, the reference's state. -/
theorem state_point (c : Dev nD) (t : Fin cfg0.N) (h : t.val % 8 = 7) (y : S1x2x1024.Idx) (i : Cert.MixReferenceIdeal.S4x2x1024.Idx)
    (h0 : (i 0 : ℕ) = t.val / 8 + y 0) (h1 : (i 1 : ℕ) = y 1) (h2 : (i 2 : ℕ) = y 2) :
    k0_pay7 (F := Ideal) (X0_1 m c t) (X0_2 m c t) y = val_main_v30 (F := Ideal) (m ((c : Thread nD τ).loc main_arg0)) i := by
  pointwise [k0_pay7, k0_pay6, val_main_v30, val_main_v9, val_main_v8, val_main_cst, val_main_v7, val_main_v6, val_main_v5, val_main_v4,
    val_main_v0]
  have hy0 : (y 0).val < 1 := (y 0).isLt
  rw [dif_neg (by omega)]
  refine congrArg₂ (· * ·) (z_c m c _ _ _ _ _ ?_ ?_) (z_h m c _ _ _ _ _ ?_ ?_) <;>
  · dsimp only; omega

/-! # The six arrays after the run -/

theorem final_h (c : Dev nD) : (dats m 0 c).arrAt 15 (cfgs 0).N
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15]
  exact h_point m c t y _ (by blk_simp [idx t]) (by blk_simp [idx t])

theorem final_hn (c : Dev nD) : (dats m 0 c).arrAt 16 (cfgs 0).N
    = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 16 _ (by decide +kernel) fun t hf y => ?_
  blk_simp
  rw [after0_16]
  exact hn_point m c t y _ (by blk_simp [idx t]) (by blk_simp [idx t])

theorem final_state (c : Dev nD) : (dats m 0 c).arrAt 17 (cfgs 0).N = val_main_v30 (F := Ideal) (m ((c : Thread nD τ).loc main_arg0)) := by
  refine (dats m 0 c).arrAt_eq_of_covers 17 _ (by decide +kernel) fun t hf y => ?_
  blk_simp
  rw [after0_17]
  exact state_point m c t ((flush0_17 t).mp hf) y _ (by blk_simp [idx t]) (by blk_simp [idx t]) (by blk_simp [idx t])

theorem final_18 (c : Dev nD) : (dats m 0 c).arrAt 18 (cfgs 0).N = val_main_v69 (F := Ideal) (m ((c : Thread nD τ).loc main_arg8)) := by
  refine (dats m 0 c).arrAt_eq_of_covers 18 _ (by decide +kernel) fun t hf y => ?_
  blk_simp
  rw [after0_18]
  pointwise [k0_pay3, val_main_v69]
  blk_point [iblk, V, idx t]

theorem final_19 (c : Dev nD) : (dats m 0 c).arrAt 19 (cfgs 0).N = val_main_v70 (F := Ideal) (m ((c : Thread nD τ).loc main_arg9)) := by
  refine (dats m 0 c).arrAt_eq_of_covers 19 _ (by decide +kernel) fun t hf y => ?_
  blk_simp
  rw [after0_19]
  pointwise [k0_pay4, val_main_v70]
  blk_point [iblk, V, idx t]

theorem final_20 (c : Dev nD) : (dats m 0 c).arrAt 20 (cfgs 0).N = val_main_v71 (F := Ideal) (m ((c : Thread nD τ).loc main_arg10)) := by
  refine (dats m 0 c).arrAt_eq_of_covers 20 _ (by decide +kernel) fun t hf y => ?_
  blk_simp
  rw [after0_20]
  pointwise [k0_pay5, val_main_v71]
  blk_point [iblk, V, idx t]

end Cert.Proof.MixValue

end
-- ==== Proof.FfnValue.lean ====
module

public import proofs.«01_k».proof.Proof.FfnFrame
public import proofs.«01_k».proof.Proof.RmsNorm
public import proofs.«01_k».proof.Proof.Gen.FfnReferenceIdeal.Read
public import Idealize.ShloMosaic.Lib.Pointwise
public import Idealize.ShloMosaic.Lib.Pipeline.ValueKit

@[expose] public section

set_option maxRecDepth 16384

noncomputable section

namespace Cert.Proof.FfnValue

open Cert.FfnIdeal Cert.FfnIdeal.Gen Cert.Proof.FfnRun Cert.Proof.FfnFrame
open Idealize.ShloMosaic Idealize.ShloMosaic.TcCoe Idealize.ShloMosaic.Tactic Idealize.SL.Sem
open Idealize.ShloMosaic.Pipeline (Dat)
open Cert.FfnReferenceIdeal.Read

/-! # The feed-forward kernel's result is the reference's

The eleven points of a row block add the eleven blocks of hidden columns to the rows of `h`; the sum over the blocks is
the reference's one product, and the last point normalises the rows as the reference does. -/

variable (m : (ℓ : Loc nD τ sig) → Buf (Elt Ideal) ℓ)

theorem idx : ∀ t : Fin cfg0.N, win0_0.index t = ![t.val / 11, 0] ∧ win0_1.index t = ![t.val / 11, 0]
    ∧ win0_2.index t = ![0, 0] ∧ win0_3.index t = ![0, t.val % 11] ∧ win0_4.index t = ![0, t.val % 11]
    ∧ win0_5.index t = ![t.val % 11, 0] ∧ win0_6.index t = ![t.val / 11, 0] ∧ t.val / 11 < 8 :=
  (by decide +kernel : ∀ t : Fin grid0.N, _)

theorem last_column : ∀ t : Fin cfg0.N, k0_cond1 (grid0.coords t) = 1#1 ↔ t.val % 11 = 10 :=
  (by decide +kernel : ∀ t : Fin grid0.N, _)

theorem first_column_iff : ∀ t : Fin cfg0.N,
    Scalar.cmpi .eq (BitVec.ofNat 32 (grid0.coords t 1).val) 0#32 = (if t.val % 11 = 0 then 1#1 else 0#1) :=
  (by decide +kernel : ∀ t : Fin grid0.N, _)

/-- One point's share of the product with the down projection. -/
def share (x0 : FVec Ideal S1024x2048 .bf16) (x3 x4 : FVec Ideal S2048x512 .bf16) (x5 : FVec Ideal S512x2048 .bf16)
    (j : S1024x2048.Idx) : EReal :=
  ∑ k : Fin 512, ((∑ l : Fin 2048, x0 (ix2 (j 0) l) * x3 (ix2 l k)) * Ideal.logistic (∑ l : Fin 2048, x0 (ix2 (j 0) l) * x3 (ix2 l k))
    * (∑ l : Fin 2048, x0 (ix2 (j 0) l) * x4 (ix2 l k))) * x5 (ix2 k (j 1))

/-- A point adds its share to the rows of `h` at the first block of hidden columns, to the rows it found at the others. -/
theorem pay1_apply (i : grid0.Coords) (x0 : FVec Ideal S1024x2048 .bf16) (x3 x4 : FVec Ideal S2048x512 .bf16)
    (x1 y : FVec Ideal S1024x2048 .f32) (x5 : FVec Ideal S512x2048 .bf16) (j : S1024x2048.Idx) :
    k0_pay1 (F := Ideal) i x0 x3 x4 x1 y x5 j
      = (Scalar.select (Scalar.cmpi .eq (BitVec.ofNat 32 (i 1).val) 0#32) (x1 j) (y j) : EReal) + share x0 x3 x4 x5 j := by
  pointwise [k0_pay1, share]

/-- A row block of the normalisation. -/
theorem pay2_apply (x : FVec Ideal S256x2048 .f32) (g : FVec Ideal S1x2048 .f32) (j : S256x2048.Idx) :
    k0_pay2 (F := Ideal) x g j = normed (fun k => x (ix2 (j 0) k)) (x j) (g (ix2 0 (j 1))) := by
  pointwise [k0_pay2, normed]

/-- The four row blocks normalised are the rows normalised. -/
theorem normAll_apply (g : FVec Ideal S1x2048 .f32) (Y : FVec Ideal S1024x2048 .f32) (y : S1024x2048.Idx) :
    normAll (F := Ideal) g Y y = normed (fun k => Y (ix2 (y 0) k)) (Y y) (g (ix2 0 (y 1))) := by
  have key : ∀ k : ℕ, View.AllAt (Val := Elt Ideal) (normPieces (F := Ideal) g Y k) y
      (normed (fun k => Y (ix2 (y 0) k)) (Y y) (g (ix2 0 (y 1)))) := by
    intro k
    induction k with
    | zero => rw [normPieces]; exact View.allAt_nil _ _
    | succ k ih =>
      rw [normPieces]
      split
      next hk =>
        refine View.allAt_cons _ _ _ (fun x hx => ?_) ih
        have e0 : (y 0 : ℕ) = 256 * k + x 0 := by
          rw [← hx, Rect.emb_apply]; show k0_off1 ⟨k, hk⟩ 0 + 1 * (x 0 : ℕ) = _; rw [k0_off1_eq]; show 256 * k + 1 * (x 0 : ℕ) = _; omega
        have e1 : (y 1 : ℕ) = x 1 := by
          rw [← hx, Rect.emb_apply]; show k0_off1 ⟨k, hk⟩ 1 + 1 * (x 1 : ℕ) = _; rw [k0_off1_eq]; show 0 + 1 * (x 1 : ℕ) = _; omega
        have hrow : ∀ q : Fin 2048, (rows ⟨k, hk⟩).emb (ix2 (x 0) q) = ix2 (y 0) q := fun q => funext fun a => Fin.ext (by
          rw [Rect.emb_apply]
          fin_cases a
          · show k0_off1 ⟨k, hk⟩ 0 + 1 * (x 0 : ℕ) = y 0; rw [k0_off1_eq]; show 256 * k + 1 * (x 0 : ℕ) = _; omega
          · show k0_off1 ⟨k, hk⟩ 1 + 1 * (q : ℕ) = q; rw [k0_off1_eq]; show 0 + 1 * (q : ℕ) = _; omega)
        refine (pay2_apply _ g x).trans ?_
        have hg : x 1 = y 1 := Fin.ext e1.symm
        show normed (fun q => Y ((rows ⟨k, hk⟩).emb (ix2 (x 0) q))) (Y ((rows ⟨k, hk⟩).emb x)) (g (ix2 0 (x 1))) = _
        simp only [hrow]
        rw [hx]
        exact congrArg (fun q => normed _ _ (g (ix2 0 q))) hg
      next => exact ih
  exact View.canon_eq_of_allAt (Val := Elt Ideal) _ y _ (normPieces_cover (F := Ideal) g Y y) (key _)

/-- The reference's result is its sum with every row normalised, -/
theorem ref_apply (x0 : FVec Ideal Cert.FfnReferenceIdeal.S8192x2048 .bf16) (x1 : FVec Ideal Cert.FfnReferenceIdeal.S8192x2048 .f32)
    (x2 : FVec Ideal Cert.FfnReferenceIdeal.S1x2048 .f32) (x3 x4 : FVec Ideal Cert.FfnReferenceIdeal.S2048x5632 .bf16)
    (x5 : FVec Ideal Cert.FfnReferenceIdeal.S5632x2048 .bf16) (i : Cert.FfnReferenceIdeal.S8192x2048.Idx) :
    val_main_v21 (F := Ideal) x0 x1 x2 x3 x4 x5 i
      = normed (fun k => val_main_v9 (F := Ideal) x0 x1 x3 x4 x5 (ix2 (i 0) k)) (val_main_v9 (F := Ideal) x0 x1 x3 x4 x5 i)
          (x2 (ix2 0 (i 1))) := by
  pointwise [val_main_v21, val_main_v20, val_main_v19, val_main_v18, val_main_v17, val_main_v16, val_main_v15, val_main_cst_1,
    val_main_v14, val_main_v13, val_main_cst_0, val_main_v12, val_main_v11, val_main_cst, val_main_v10, normed]

/-- and that sum is `h` plus one product over all hidden columns. -/
theorem sum_apply (x0 : FVec Ideal Cert.FfnReferenceIdeal.S8192x2048 .bf16) (x1 : FVec Ideal Cert.FfnReferenceIdeal.S8192x2048 .f32)
    (x3 x4 : FVec Ideal Cert.FfnReferenceIdeal.S2048x5632 .bf16)
    (x5 : FVec Ideal Cert.FfnReferenceIdeal.S5632x2048 .bf16) (i : Cert.FfnReferenceIdeal.S8192x2048.Idx) :
    val_main_v9 (F := Ideal) x0 x1 x3 x4 x5 i = x1 i
      + ∑ k : Fin 5632, ((∑ l : Fin 2048, x0 (ix2 (i 0) l) * x3 (ix2 l k)) * Ideal.logistic (∑ l : Fin 2048, x0 (ix2 (i 0) l) * x3 (ix2 l k))
    * (∑ l : Fin 2048, x0 (ix2 (i 0) l) * x4 (ix2 l k))) * x5 (ix2 k (i 1)) := by
  pointwise [val_main_v9, val_main_v8, val_main_v7, val_main_v6, val_main_v5, val_main_v4, val_main_v3, val_main_v2, val_main_v1,
    val_main_v0, val_main_call0_v0, val_main_call0_v1, val_main_call0_v2, val_main_call0_v3, val_main_call0_v4, val_main_call0_v5,
    val_main_call0_cst, val_main_call0_cst_0]
  rfl

/-- The rows as added up before the normalisation. -/
def gathered (c : Dev nD) : (n : ℕ) → n < cfg0.N → FVec Ideal S1024x2048 .f32
  | 0, h => k0_pay1 (F := Ideal) (grid0.coords ⟨0, h⟩) (iblk m c 0 ⟨0, h⟩) (iblk m c 3 ⟨0, h⟩) (iblk m c 4 ⟨0, h⟩) (iblk m c 1 ⟨0, h⟩)
      (iblk m c 1 ⟨0, h⟩) (iblk m c 5 ⟨0, h⟩)
  | n + 1, h => k0_pay1 (F := Ideal) (grid0.coords ⟨n + 1, h⟩) (iblk m c 0 ⟨n + 1, h⟩) (iblk m c 3 ⟨n + 1, h⟩) (iblk m c 4 ⟨n + 1, h⟩)
      (iblk m c 1 ⟨n + 1, h⟩) (gathered c n (Nat.lt_of_succ_lt h)) (iblk m c 5 ⟨n + 1, h⟩)

/-- What is added at a point: `h`'s rows at the first block of hidden columns, and the point's share. -/
def addend (c : Dev nD) (t : Fin cfg0.N) (j : S1024x2048.Idx) : EReal :=
  (if t.val % 11 = 0 then (show FVec Ideal S1024x2048 .f32 from iblk m c 1 t) j else 0)
    + share (iblk m c 0 t) (iblk m c 3 t) (iblk m c 4 t) (iblk m c 5 t) j

theorem gathered_first (c : Dev nD) (t : Fin cfg0.N) (h : t.val % 11 = 0) (j : S1024x2048.Idx) :
    (gathered m c t.val t.isLt j : EReal) = 0 + addend m c t j := by
  have e := first_column_iff t
  rw [if_pos h] at e
  rw [zero_add, addend, if_pos h]
  obtain ⟨n, hn⟩ := t
  cases n with
  | zero => rw [gathered, pay1_apply, e]; rfl
  | succ n => rw [gathered, pay1_apply, e]; rfl

theorem gathered_later (c : Dev nD) (t : Fin cfg0.N) (h : ¬t.val % 11 = 0) (j : S1024x2048.Idx) :
    (gathered m c t.val t.isLt j : EReal)
      = gathered m c (t.val - 1) (Nat.lt_of_le_of_lt (Nat.sub_le _ _) t.isLt) j + addend m c t j := by
  have e := first_column_iff t
  rw [if_neg h] at e
  rw [addend, if_neg h, zero_add]
  obtain ⟨n, hn⟩ := t
  cases n with
  | zero => exact absurd rfl h
  | succ n => rw [gathered, pay1_apply, e]; rfl

/-- What a point leaves in the output's buffer. -/
theorem rowsAfter_eq (c : Dev nD) : ∀ (n : ℕ) (h : n < cfg0.N), rowsAfter m c n h
    = if n % 11 = 10 then normAll (iblk m c 2 ⟨n, h⟩) (gathered m c n h) else gathered m c n h := by
  intro n
  induction n with
  | zero => intro h; rw [if_neg (by omega), rowsAfter, pointOut, outBlock, if_neg (fun h' => absurd ((last_column _).mp h') (by simp))]; rfl
  | succ n ih =>
    intro h
    have hp : k0_pay1 (F := Ideal) (grid0.coords ⟨n + 1, h⟩) (iblk m c 0 ⟨n + 1, h⟩) (iblk m c 3 ⟨n + 1, h⟩) (iblk m c 4 ⟨n + 1, h⟩)
        (iblk m c 1 ⟨n + 1, h⟩) (rowsAfter m c n (Nat.lt_of_succ_lt h)) (iblk m c 5 ⟨n + 1, h⟩) = gathered m c (n + 1) h := by
      rw [gathered]
      by_cases h0 : (n + 1) % 11 = 0
      · have e := first_column_iff ⟨n + 1, h⟩
        rw [if_pos h0] at e
        funext j; rw [pay1_apply, pay1_apply, e]; rfl
      · rw [ih, if_neg (by omega)]
    rw [rowsAfter, pointOut, outBlock, hp]
    by_cases h1 : (n + 1) % 11 = 10
    · rw [if_pos h1, if_pos ((last_column ⟨n + 1, h⟩).mpr h1)]
    · rw [if_neg h1, if_neg fun h' => h1 ((last_column ⟨n + 1, h⟩).mp h')]

/-- At the last block of hidden columns the rows hold the reference's sum. -/
theorem gathered_last (c : Dev nD) (t : Fin cfg0.N) (h : t.val % 11 = 10) (j : S1024x2048.Idx)
    (i : Cert.FfnReferenceIdeal.S8192x2048.Idx) (h0 : (i 0 : ℕ) = t.val / 11 * 1024 + j 0) (h1 : (i 1 : ℕ) = j 1) :
    gathered m c t.val t.isLt j = val_main_v9 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) i := by
  rw [Pipeline.eq_sum_fin_of_reset_step_apply_of_flush (M := EReal) (fun n h => gathered m c n h) 11 (fun _ => 0) (addend m c)
    (gathered_first m c) (gathered_later m c) t h j, zero_add, sum_apply]
  unfold addend
  rw [Finset.sum_add_distrib]
  refine congrArg₂ (· + ·) ?_ ?_
  · rw [Fin.sum_univ_succ, if_pos (by simp), Finset.sum_eq_zero fun s _ => if_neg (by have := s.isLt; simp only [Fin.val_succ]; omega), add_zero]
    have hi := idx ⟨11 * (t.val / 11) + (0 : Fin 11).val, Pipeline.run_point_lt_of_flush t h 0⟩
    blk_ext [iblk, V, hi]
  · unfold share
    refine Fin.sum_mul_add_congr fun s k hl => ?_
    have hi := idx ⟨11 * (t.val / 11) + s.val, Pipeline.run_point_lt_of_flush t h s⟩
    blk_point [iblk, V, hi]

/-- What a writing point leaves is the reference's result at the rows it is written to. -/
theorem point (c : Dev nD) (t : Fin cfg0.N) (h : t.val % 11 = 10) (y : S1024x2048.Idx) :
    rowsAfter m c t.val t.isLt y
      = val_main_v21 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (((cfg0.win 6).blk t).view.emb y) := by
  rw [rowsAfter_eq, if_pos h, normAll_apply, ref_apply]
  have e : ∀ k, gathered m c t.val t.isLt (ix2 (y 0) k) = val_main_v9 (F := Ideal) (m ((c : Thread nD τ).loc main_arg0)) (m ((c : Thread nD τ).loc main_arg1))
      (m ((c : Thread nD τ).loc main_arg3)) (m ((c : Thread nD τ).loc main_arg4)) (m ((c : Thread nD τ).loc main_arg5))
      (ix2 ((((cfg0.win 6).blk t).view.emb y) 0) k) := fun k =>
    gathered_last m c t h _ _ (by blk_simp [idx t]) rfl
  have e' := gathered_last m c t h y (((cfg0.win 6).blk t).view.emb y) (by blk_simp [idx t]) (by blk_simp [idx t])
  simp only [e, e']
  refine congrArg (normed _ _) ?_
  blk_ext [iblk, V, idx t]

/-- The result array after the run. -/
theorem final (c : Dev nD) : (dats m 0 c).arrAt 6 (cfgs 0).N
    = val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  rw [after0_6]
  exact point m c t ((flush0_6 t).mp hf) y

end Cert.Proof.FfnValue

end
-- ==== Proof.InProjValue.lean ====
module

public import proofs.«01_k».proof.Proof.Gen.InProjIdeal.Frame
public import proofs.«01_k».proof.Proof.RmsNorm
public import proofs.«01_k».proof.Proof.Gen.InProjReferenceIdeal.Read
public import Idealize.ShloMosaic.Lib.Pointwise
public import Idealize.ShloMosaic.Lib.Pipeline.ValueKit

@[expose] public section

set_option maxRecDepth 16384

noncomputable section

namespace Cert.Proof.InProjValue

open Cert.InProjIdeal Cert.InProjIdeal.Gen
open Idealize.ShloMosaic Idealize.ShloMosaic.TcCoe Idealize.ShloMosaic.Tactic Idealize.SL.Sem
open Idealize.ShloMosaic.Pipeline (Dat)
open Cert.InProjReferenceIdeal.Read

/-! # The input projection's results are the reference's

Point `t` works on rows `2048·(t / 17)` onwards and on one block of 512 columns. The first point of a row block leaves the
normalised rows in the scratch, in eight row blocks; all seventeen multiply them with their block of the weights. The blocks
of columns are taken in the order that puts columns 4608 to 8703 first. -/

variable (m : (ℓ : Loc nD τ sig) → Buf (Elt Ideal) ℓ)

section Point

variable (c : Dev nD) (i : grid0.Coords) (arg2 : Memref sig .tc .vmem S2048x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S32x2048 .f32) (harg5 : arg5.IsWhole) (arg6 : Memref sig .tc .vmem S2048x512 .bf16) (harg6 : arg6.IsWhole) (arg7 : Memref sig .tc .vmem S32x2048 .bf16) (harg7 : arg7.IsWhole) (arg8 : Memref sig .tc .vmem S2048x2048 .bf16) (harg8 : arg8.IsWhole)

theorem out_B_4 (hc0 : ¬cond0_0 i) (x0 : Vec Ideal S2048x2048 .f32) (x1 : Vec Ideal S1x2048 .f32) (x2 : Vec Ideal S2048x512 .f32) (x3 : Vec Ideal S32x2048 .f32) (xs0 : Vec Ideal S2048x2048 .bf16) :
    out0_B_4 (F := Ideal) c i arg2 harg2 arg3 harg3 arg4 harg4 arg5 harg5 arg6 harg6 arg7 harg7 arg8 harg8 hc0 x0 x1 x2 x3 xs0 = k0_pay2 xs0 x2 := by
  frame_out

theorem out_B_5 (hc0 : ¬cond0_0 i) (x0 : Vec Ideal S2048x2048 .f32) (x1 : Vec Ideal S1x2048 .f32) (x2 : Vec Ideal S2048x512 .f32) (x3 : Vec Ideal S32x2048 .f32) (xs0 : Vec Ideal S2048x2048 .bf16) :
    out0_B_5 (F := Ideal) c i arg2 harg2 arg3 harg3 arg4 harg4 arg5 harg5 arg6 harg6 arg7 harg7 arg8 harg8 hc0 x0 x1 x2 x3 xs0 = k0_pay3 x3 := by
  frame_out

theorem out_A_5 (hc0 : cond0_0 i) (x0 : Vec Ideal S2048x2048 .f32) (x1 : Vec Ideal S1x2048 .f32) (x2 : Vec Ideal S2048x512 .f32) (x3 : Vec Ideal S32x2048 .f32) :
    out0_A_5 (F := Ideal) c i arg2 harg2 arg3 harg3 arg4 harg4 arg5 harg5 arg6 harg6 arg7 harg7 arg8 harg8 hc0 x0 x1 x2 x3 = k0_pay3 x3 := by
  frame_out

theorem out_A_4 (hc0 : cond0_0 i) (x0 : Vec Ideal S2048x2048 .f32) (x1 : Vec Ideal S1x2048 .f32) (x2 : Vec Ideal S2048x512 .f32) (x3 : Vec Ideal S32x2048 .f32) :
    out0_A_4 (F := Ideal) c i arg2 harg2 arg3 harg3 arg4 harg4 arg5 harg5 arg6 harg6 arg7 harg7 arg8 harg8 hc0 x0 x1 x2 x3
      = k0_pay2 (sout0_A_0 (F := Ideal) c i arg2 harg2 arg3 harg3 arg4 harg4 arg5 harg5 arg6 harg6 arg7 harg7 arg8 harg8 hc0 x0 x1 x2 x3) x2 := by
  frame_out
  rw [View.readCov_eq_canon']
  refine congrArg (fun z => k0_pay2 z x2) (funext fun j => congrArg _ (funext fun a => Fin.ext ?_))
  fin_cases a
  · show 0 + 1 * (j 0 : ℕ) = j 0; omega
  · show 0 + 1 * (j 1 : ℕ) = j 1; omega

/-- One trip of the loop stores one row block, normalised. -/
theorem trip_eq (𝒱 : Variants) (bd : Option 𝒱.V) (k0_h1 : k0_cond1 i = 1#1)
    (X2 : BufTy.Contents (Elt Ideal) arg2.view.ty) (X3 : BufTy.Contents (Elt Ideal) arg3.view.ty) (k : Fin k0_t1_loop.trips) :
    tripL_k0_t1 (F := Ideal) 𝒱 c bd i arg2 harg2 arg3 harg3 arg4 harg4 arg5 harg5 arg6 harg6 arg7 harg7 arg8 harg8 k0_h1 X2 X3 k
      = [⟨Rect.unit (s := S2048x2048) (k0_off1 k) S256x2048.size (k0_off1_inb i k k0_h1),
          k0_pay1 (View.ld (arg2.view.read (Elt Ideal) X2) (Rect.unit (s := S2048x2048) (k0_off1 k) S256x2048.size (k0_off1_inb i k k0_h1)))
            (arg3.view.read (Elt Ideal) X3)⟩] := by
  unfold tripL_k0_t1 trip_k0_t1
  dsimp only
  rw [View.readAt_eq_ld, View.readAt_eq_ld, View.ld_unit_lit' _ _ (by decide)]

/-- A row block of the normalisation. -/
theorem pay1_apply (x : FVec Ideal S256x2048 .f32) (g : FVec Ideal S1x2048 .f32) (j : S256x2048.Idx) :
    k0_pay1 (F := Ideal) x g j = normed (fun k => x (ix2 (j 0) k)) (x j) (g (ix2 0 (j 1))) := by
  pointwise [k0_pay1, normed]

/-- The first point of a row block leaves every row of its block normalised in the scratch. -/
theorem scratch_A (hc0 : cond0_0 i) (x0 : Vec Ideal S2048x2048 .f32) (x1 : Vec Ideal S1x2048 .f32) (x2 : Vec Ideal S2048x512 .f32) (x3 : Vec Ideal S32x2048 .f32) (y : S2048x2048.Idx) :
    sout0_A_0 (F := Ideal) c i arg2 harg2 arg3 harg3 arg4 harg4 arg5 harg5 arg6 harg6 arg7 harg7 arg8 harg8 hc0 x0 x1 x2 x3 y
      = normed (fun k => x0 (ix2 (y 0) k)) (x0 y) (x1 (ix2 0 (y 1))) := by
  have key : ∀ k : ℕ, View.AllAt (Val := Elt Ideal) (pb_k0_t1 (F := Ideal) Variants.none c none i arg2 harg2 arg3 harg3 arg4 harg4 arg5 harg5 arg6 harg6 arg7 harg7 arg8 harg8 hc0 (harg2.unread x0) (harg3.unread x1) k) y
      (normed (fun k => x0 (ix2 (y 0) k)) (x0 y) (x1 (ix2 0 (y 1)))) := by
    intro k
    induction k with
    | zero => exact View.allAt_nil _ _
    | succ k ih =>
      by_cases hk : k < k0_t1_loop.trips
      · rw [pb_k0_t1_succ (F := Ideal) Variants.none c none i arg2 harg2 arg3 harg3 arg4 harg4 arg5 harg5 arg6 harg6 arg7 harg7 arg8 harg8 hc0 (harg2.unread x0) (harg3.unread x1) ⟨k, hk⟩, trip_eq]
        refine View.allAt_cons _ _ _ (fun x hx => ?_) ih
        have o0 : k0_off1 ⟨k, hk⟩ 0 = 256 * k := by rw [k0_off1_eq]; rfl
        have o1 : k0_off1 ⟨k, hk⟩ 1 = 0 := by rw [k0_off1_eq]; rfl
        have e0 : (y 0 : ℕ) = 256 * k + x 0 := by
          rw [← hx, Rect.emb_apply]; show k0_off1 ⟨k, hk⟩ 0 + 1 * (x 0 : ℕ) = _; omega
        have e1 : (y 1 : ℕ) = x 1 := by
          rw [← hx, Rect.emb_apply]; show k0_off1 ⟨k, hk⟩ 1 + 1 * (x 1 : ℕ) = _; omega
        have hrow : ∀ q : Fin 2048, (Rect.unit (s := S2048x2048) (k0_off1 ⟨k, hk⟩) S256x2048.size (k0_off1_inb i ⟨k, hk⟩ hc0)).emb (ix2 (x 0) q) = ix2 (y 0) q := fun q => funext fun a => Fin.ext (by
          rw [Rect.emb_apply]
          fin_cases a
          · show k0_off1 ⟨k, hk⟩ 0 + 1 * (x 0 : ℕ) = y 0; omega
          · show k0_off1 ⟨k, hk⟩ 1 + 1 * (q : ℕ) = q; omega)
        rw [harg2.read_unread, harg3.read_unread]
        refine (pay1_apply _ x1 x).trans ?_
        have hg : x 1 = y 1 := Fin.ext e1.symm
        show normed (fun q => x0 ((Rect.unit (s := S2048x2048) (k0_off1 ⟨k, hk⟩) S256x2048.size (k0_off1_inb i ⟨k, hk⟩ hc0)).emb (ix2 (x 0) q))) (x0 ((Rect.unit (s := S2048x2048) (k0_off1 ⟨k, hk⟩) S256x2048.size (k0_off1_inb i ⟨k, hk⟩ hc0)).emb x)) (x1 (ix2 0 (x 1))) = _
        simp only [hrow]
        rw [hx]
        exact congrArg (fun q => normed _ _ (x1 (ix2 0 q))) hg
      · rw [pb_k0_t1]; unfold pb_k0_t1Step; rw [dif_neg hk]; exact ih
  frame_out
  exact View.canon_eq_of_allAt (Val := Elt Ideal) _ y _
    (scover0_A_0 (F := Ideal) c i arg2 harg2 arg3 harg3 arg4 harg4 arg5 harg5 arg6 harg6 arg7 harg7 arg8 harg8 hc0 x0 x1 x2 x3 y) (key _)

end Point

theorem idx : ∀ t : Fin cfg0.N, win0_0.index t = ![t.val / 17, 0] ∧ win0_1.index t = ![0, 0]
    ∧ win0_2.index t = ![0, (t.val % 17 + 9) % 17] ∧ win0_3.index t = ![min t.val 63, 0] ∧ win0_4.index t = ![t.val / 17, t.val % 17]
    ∧ win0_5.index t = ![min t.val 63, 0] ∧ t.val / 17 < 4 :=
  (by decide +kernel : ∀ t : Fin grid0.N, _)

/-- The reference's normalised rows. -/
theorem norm_apply (x0 : FVec Ideal Cert.InProjReferenceIdeal.S8192x2048 .f32) (x1 : FVec Ideal Cert.InProjReferenceIdeal.S1x2048 .f32) (i : Cert.InProjReferenceIdeal.S8192x2048.Idx) :
    val_main_v11 (F := Ideal) x0 x1 i = normed (fun k => x0 (ix2 (i 0) k)) (x0 i) (x1 (ix2 0 (i 1))) := by
  pointwise [val_main_v11, val_main_v10, val_main_v9, val_main_v8, val_main_v7, val_main_v6, val_main_v5, val_main_cst_1,
    val_main_v4, val_main_v3, val_main_cst_0, val_main_v2, val_main_v1, val_main_cst, val_main_v0, normed]

/-- After the first point of a row block the scratch holds the block's normalised rows, -/
theorem scratch_first (c : Dev nD) (t : Fin cfg0.N) (hn : t.val % 17 = 0) (y : S2048x2048.Idx)
    (i : Cert.InProjReferenceIdeal.S8192x2048.Idx) (h0 : (i 0 : ℕ) = t.val / 17 * 2048 + y 0) (h1 : (i 1 : ℕ) = y 1) :
    (outsAt0 m c t.val t.isLt).2.2 y = val_main_v11 (F := Ideal) (m ((c : Thread nD τ).loc main_arg0)) (m ((c : Thread nD τ).loc main_arg1)) i := by
  rw [outsAt0_A m c t hn]
  dsimp only
  rw [scratch_A, norm_apply]
  have hrow : ∀ k : Fin 2048, iblk m c 0 t (ix2 (y 0) k) = (m ((c : Thread nD τ).loc main_arg0)) (ix2 (i 0) k) := fun k => by
    blk_point [iblk, V, idx t]
  simp only [hrow]
  unfold normed
  blk_point [iblk, V, idx t]

/-- and so it does after every point. -/
theorem scratch (c : Dev nD) : ∀ (n : ℕ) (h : n < cfg0.N) (y : S2048x2048.Idx) (i : Cert.InProjReferenceIdeal.S8192x2048.Idx)
    (h0 : (i 0 : ℕ) = n / 17 * 2048 + y 0) (h1 : (i 1 : ℕ) = y 1),
    (outsAt0 m c n h).2.2 y = val_main_v11 (F := Ideal) (m ((c : Thread nD τ).loc main_arg0)) (m ((c : Thread nD τ).loc main_arg1)) i := by
  intro n
  induction n using Nat.strong_induction_on with
  | _ n ih =>
    intro h y i h0 h1
    by_cases hn : n % 17 = 0
    · exact scratch_first m c ⟨n, h⟩ hn y i h0 h1
    · rw [outsAt0_B m c ⟨n, h⟩ hn]
      dsimp only [sout0_B_0]
      exact ih (n - 1) (by omega) _ y i (by rw [h0]; congr 2; omega) h1

/-- What any point leaves in its block of the projection. -/
theorem block_4 (c : Dev nD) (t : Fin cfg0.N) :
    (outsAt0 m c t.val t.isLt).1 = k0_pay2 (outsAt0 m c t.val t.isLt).2.2 (iblk m c 2 t) := by
  by_cases hn : t.val % 17 = 0
  · rw [outsAt0_A m c t hn]; dsimp only; rw [out_A_4]
  · rw [outsAt0_B m c t hn]; dsimp only [sout0_B_0]; rw [out_B_4]

/-- What any point leaves in its block of the converted weights. -/
theorem block_5 (c : Dev nD) (t : Fin cfg0.N) :
    (outsAt0 m c t.val t.isLt).2.1 = k0_pay3 (iblk m c 3 t) := by
  by_cases hn : t.val % 17 = 0
  · rw [outsAt0_A m c t hn]; dsimp only; rw [out_A_5]
  · rw [outsAt0_B m c t hn]; dsimp only; rw [out_B_5]

theorem pay2_apply (s : FVec Ideal S2048x2048 .bf16) (w : FVec Ideal S2048x512 .f32) (j : S2048x512.Idx) :
    k0_pay2 (F := Ideal) s w j = ∑ k : Fin 2048, s (ix2 (j 0) k) * w (ix2 k (j 1)) := by
  pointwise [k0_pay2]

/-- Each entry of a block is the reference's. -/
theorem point_4 (c : Dev nD) (t : Fin cfg0.N) (y : S2048x512.Idx) (i : Cert.InProjReferenceIdeal.S8192x8704.Idx)
    (h0 : (i 0 : ℕ) = t.val / 17 * 2048 + y 0) (h1 : (i 1 : ℕ) = t.val % 17 * 512 + y 1) :
    (outsAt0 m c t.val t.isLt).1 y = val_main_v16 (F := Ideal) (m ((c : Thread nD τ).loc main_arg0)) (m ((c : Thread nD τ).loc main_arg1)) (m ((c : Thread nD τ).loc main_arg2)) i := by
  rw [block_4, pay2_apply]
  have e : ∀ k : Fin 2048, (outsAt0 m c t.val t.isLt).2.2 (ix2 (y 0) k)
      = val_main_v11 (F := Ideal) (m ((c : Thread nD τ).loc main_arg0)) (m ((c : Thread nD τ).loc main_arg1)) (ix2 (i 0) k) := fun k =>
    scratch m c t.val t.isLt _ _ h0 rfl
  simp only [e]
  pointwise [val_main_v16, val_main_v15, val_main_v14, val_main_v13, val_main_v12]
  blk_point [iblk, V, idx t]

/-- The projection's array after the run. -/
theorem final_4 (c : Dev nD) : (dats m 0 c).arrAt 4 (cfgs 0).N = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact point_4 m c t y _ (by blk_simp [idx t]) (by blk_simp [idx t])

/-- The converted weights' array after the run. -/
theorem final_5 (c : Dev nD) : (dats m 0 c).arrAt 5 (cfgs 0).N = val_main_v17 (F := Ideal) (m ((c : Thread nD τ).loc main_arg3)) := by
  refine (dats m 0 c).arrAt_eq_of_covers 5 _ (by decide +kernel) fun t hf y => ?_
  blk_simp
  rw [after0_5, block_5]
  pointwise [k0_pay3, val_main_v17]
  blk_point [iblk, V, idx t]

end Cert.Proof.InProjValue

end
-- ==== Proof.lean ====
/- The certificate's proof. -/
module

public import proofs.«01_k».proof.Defs
public import proofs.«01_k».proof.Proof.Gen.MixReferenceIdeal.Run
public import proofs.«01_k».proof.Proof.Gen.MixReferenceIdeal.Read
public import proofs.«01_k».proof.Proof.Gen.FfnReferenceIdeal.Run
public import proofs.«01_k».proof.Proof.Gen.FfnReferenceIdeal.Read
public import proofs.«01_k».proof.Proof.Gen.InProj.Frame
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.Slide.Frame
public import proofs.«01_k».proof.Proof.Gen.SlideIdeal.Frame
public import proofs.«01_k».proof.Proof.Gen.SlideIdeal.Value
public import proofs.«01_k».proof.Proof.Gen.SlideReferenceIdeal.Run
public import proofs.«01_k».proof.Proof.Gen.SlideReferenceIdeal.Read
public import proofs.«01_k».proof.Proof.SlideValue
public import proofs.«01_k».proof.Proof.Gen.MixSample.Frame
public import proofs.«01_k».proof.Proof.Gen.MixSampleIdeal.Frame
public import proofs.«01_k».proof.Proof.Gen.MixSampleReferenceIdeal.Run
public import proofs.«01_k».proof.Proof.Gen.MixSampleReferenceIdeal.Read
public import proofs.«01_k».proof.Proof.MixSampleValue
public import proofs.«01_k».proof.Proof.Gen.InProjSample
public import proofs.«01_k».proof.Proof.Gen.InProjSampleIdeal.Skeleton
public import proofs.«01_k».proof.Proof.Gen.InProjSampleIdeal.Loops
public import proofs.«01_k».proof.Proof.Gen.InProjSampleIdeal.Launch
public import proofs.«01_k».proof.Proof.Gen.InProjSampleIdeal.Points
public import proofs.«01_k».proof.Proof.Gen.InProjSampleIdeal.Frame
public import proofs.«01_k».proof.Proof.Gen.InProjSampleReferenceIdeal.Run
public import proofs.«01_k».proof.Proof.Gen.InProjSampleReferenceIdeal.Read
public import proofs.«01_k».proof.Proof.InProjSampleValue
public import proofs.«01_k».proof.Proof.BitFrames
public import proofs.«01_k».proof.Proof.MixValue
public import proofs.«01_k».proof.Proof.FfnValue
public import proofs.«01_k».proof.Proof.InProjValue
public import Idealize.ShloMosaic.Adequacy
public import Idealize.ShloMosaic.Init

@[expose] public section

set_option maxRecDepth 16384

noncomputable section

namespace Cert.Proof

open Idealize.ShloMosaic Idealize.ShloMosaic.TcCoe Idealize.ShloMosaic.Tactic Idealize.SL.Sem

/-- The feed-forward kernel and the reference end at the same array. -/
theorem algebraic_ffn : Cert.algebraic_FfnIdeal_FfnReferenceIdeal (hFfnIdeal := Cert.FfnIdeal.Gen.facts)
    (hFfnReferenceIdeal := Cert.FfnReferenceIdeal.Gen.facts) := by
  pair_intro
  · run_from Cert.Proof.FfnFrame.run_main m g
  · run_from Cert.FfnReferenceIdeal.Value.run m' g'
    exact (Cert.Proof.FfnValue.final m c).symm

/-- The input projection's kernel and the reference end at the same two arrays. -/
theorem algebraic_inProj : Cert.algebraic_InProjIdeal_InProjReferenceIdeal (hInProjIdeal := Cert.InProjIdeal.Gen.facts)
    (hInProjReferenceIdeal := Cert.InProjReferenceIdeal.Gen.facts) := by
  pair_intro
  · run_from Cert.InProjIdeal.Gen.run_main m g
  · run_from Cert.InProjReferenceIdeal.Value.run m' g'
    · exact (Cert.Proof.InProjValue.final_4 m c).symm
    · exact (Cert.Proof.InProjValue.final_5 m c).symm

open Cert.MixReferenceIdeal.Read in
/-- The mixing kernel and the reference end at the same six arrays. -/
theorem algebraic_mix : Cert.algebraic_MixIdeal_MixReferenceIdeal (hMixIdeal := Cert.MixIdeal.Gen.facts)
    (hMixReferenceIdeal := Cert.MixReferenceIdeal.Gen.facts) := by
  intro m g m' g' _ hag
  refine ⟨fun c => (Cert.Proof.MixFrame.dats m 0 c).arrAt 15 (Cert.MixIdeal.cfgs 0).N,
    fun c => (Cert.Proof.MixFrame.dats m 0 c).arrAt 16 (Cert.MixIdeal.cfgs 0).N,
    fun c => (Cert.Proof.MixFrame.dats m 0 c).arrAt 17 (Cert.MixIdeal.cfgs 0).N,
    fun c => (Cert.Proof.MixFrame.dats m 0 c).arrAt 18 (Cert.MixIdeal.cfgs 0).N,
    fun c => (Cert.Proof.MixFrame.dats m 0 c).arrAt 19 (Cert.MixIdeal.cfgs 0).N,
    fun c => (Cert.Proof.MixFrame.dats m 0 c).arrAt 20 (Cert.MixIdeal.cfgs 0).N, ?_, ?_⟩
  · refine (θ_run _ _ _).mono (fun r h c => ?_) (θ_run_and (Cert.Proof.MixFrame.run_main m g) (Cert.Proof.MixFrame.frame m g))
    exact ⟨(h.1 c).1 15, (h.1 c).1 16, (h.1 c).1 17, (h.1 c).1 18, (h.1 c).1 19, (h.1 c).1 20, h.2.1 c⟩
  · refine (θ_run _ _ _).mono (fun r h c => ?_) (Cert.MixReferenceIdeal.Value.run m' g')
    obtain ⟨e0, e1, e2, e3, e4, e5, e6, e7, e8, e9, e10⟩ := hag c
    exact ⟨
      ((h c).1.trans (val_main_v55_eq m' c)).trans (by rw [e0, e1, e2, e3, e5, e6, e7]; exact (Cert.Proof.MixValue.final_h m c).symm),
      ((h c).2.1.trans (val_main_v68_eq m' c)).trans (by rw [e0, e1, e2, e3, e4, e5, e6, e7]; exact (Cert.Proof.MixValue.final_hn m c).symm),
      ((h c).2.2.1.trans (val_main_v30_eq _)).trans (by rw [e0]; exact (Cert.Proof.MixValue.final_state m c).symm),
      ((h c).2.2.2.1.trans (val_main_v69_eq _)).trans (by rw [e8]; exact (Cert.Proof.MixValue.final_18 m c).symm),
      ((h c).2.2.2.2.1.trans (val_main_v70_eq _)).trans (by rw [e9]; exact (Cert.Proof.MixValue.final_19 m c).symm),
      ((h c).2.2.2.2.2.1.trans (val_main_v71_eq _)).trans (by rw [e10]; exact (Cert.Proof.MixValue.final_20 m c).symm),
      (h c).2.2.2.2.2.2⟩

open Cert.SlideReferenceIdeal.Read in
/-- The sample attention's kernel and the reference end at the same two window buffers. -/
theorem algebraic_slide : Cert.algebraic_SlideIdeal_SlideReferenceIdeal (hSlideIdeal := Cert.SlideIdeal.Gen.facts)
    (hSlideReferenceIdeal := Cert.SlideReferenceIdeal.Gen.facts) := by
  intro m g m' g' _ hag
  refine ⟨fun c => (Cert.SlideIdeal.Gen.dats m 0 c).arrAt 8 (Cert.SlideIdeal.cfgs 0).N,
    fun c => (Cert.SlideIdeal.Gen.dats m 0 c).arrAt 9 (Cert.SlideIdeal.cfgs 0).N, ?_, ?_⟩
  · refine (θ_run _ _ _).mono (fun r h c => ?_) (θ_run_and (Cert.SlideIdeal.Gen.run_main m g) (Cert.SlideIdeal.Gen.frame m g))
    exact ⟨(h.1 c).1 8, (h.1 c).1 9, h.2.1 c⟩
  · refine (θ_run _ _ _).mono (fun r h c => ?_) (Cert.SlideReferenceIdeal.Value.run m' g')
    obtain ⟨e0, e1, e2, e3, e4⟩ := hag c
    exact ⟨
      ((h c).1.trans (val_main_v9_eq _ _)).trans (by rw [e0, e1]; exact (Cert.Proof.SlideValue.final_8 m c).symm),
      ((h c).2.1.trans (val_main_v12_eq _ _)).trans (by rw [e0, e2]; exact (Cert.Proof.SlideValue.final_9 m c).symm),
      (h c).2.2⟩

open Cert.MixSampleReferenceIdeal.Read in
/-- The sample group's mixing kernel and the reference end at the same three arrays. -/
theorem algebraic_mixSample : Cert.algebraic_MixSampleIdeal_MixSampleReferenceIdeal (hMixSampleIdeal := Cert.MixSampleIdeal.Gen.facts)
    (hMixSampleReferenceIdeal := Cert.MixSampleReferenceIdeal.Gen.facts) := by
  intro m g m' g' _ hag
  refine ⟨fun c => (Cert.MixSampleIdeal.Gen.dats m 0 c).arrAt 13 (Cert.MixSampleIdeal.cfgs 0).N,
    fun c => (Cert.MixSampleIdeal.Gen.dats m 0 c).arrAt 14 (Cert.MixSampleIdeal.cfgs 0).N,
    fun c => (Cert.MixSampleIdeal.Gen.dats m 0 c).arrAt 15 (Cert.MixSampleIdeal.cfgs 0).N, ?_, ?_⟩
  · refine (θ_run _ _ _).mono (fun r h c => ?_) (θ_run_and (Cert.MixSampleIdeal.Gen.run_main m g) (Cert.MixSampleIdeal.Gen.frame m g))
    exact ⟨(h.1 c).1 13, (h.1 c).1 14, (h.1 c).1 15, h.2.1 c⟩
  · refine (θ_run _ _ _).mono (fun r h c => ?_) (Cert.MixSampleReferenceIdeal.Value.run m' g')
    obtain ⟨e0, e1, e2, e3, e4, e5, e6, e7, e8⟩ := hag c
    exact ⟨
      ((h c).1.trans (val_main_v54_eq m' c)).trans (by rw [e0, e1, e2, e3, e4, e6, e7, e8]; exact (Cert.Proof.MixSampleValue.final_13 m c).symm),
      ((h c).2.1.trans (val_main_v67_eq m' c)).trans (by rw [e0, e1, e2, e3, e4, e5, e6, e7, e8]; exact (Cert.Proof.MixSampleValue.final_14 m c).symm),
      ((h c).2.2.1.trans (val_main_v29_eq _ _)).trans (by rw [e0, e1]; exact (Cert.Proof.MixSampleValue.final_15 m c).symm),
      (h c).2.2.2⟩

open Cert.InProjSampleReferenceIdeal.Read in
/-- The kernel of the sample rows' input projection and the reference end at the same five arrays. -/
theorem algebraic_inProjSample : Cert.algebraic_InProjSampleIdeal_InProjSampleReferenceIdeal (hInProjSampleIdeal := Cert.InProjSampleIdeal.Gen.facts)
    (hInProjSampleReferenceIdeal := Cert.InProjSampleReferenceIdeal.Gen.facts) := by
  intro m g m' g' _ hag
  refine ⟨fun c => (Cert.Proof.InProjSampleFrame.dats m 0 c).arrAt 12 (Cert.InProjSampleIdeal.cfgs 0).N,
    fun c => (Cert.Proof.InProjSampleFrame.dats m 0 c).arrAt 14 (Cert.InProjSampleIdeal.cfgs 0).N,
    fun c => (Cert.Proof.InProjSampleFrame.dats m 0 c).arrAt 15 (Cert.InProjSampleIdeal.cfgs 0).N,
    fun c => (Cert.Proof.InProjSampleFrame.dats m 0 c).arrAt 16 (Cert.InProjSampleIdeal.cfgs 0).N,
    fun c => (Cert.Proof.InProjSampleFrame.dats m 0 c).arrAt 17 (Cert.InProjSampleIdeal.cfgs 0).N, ?_, ?_⟩
  · refine (θ_run _ _ _).mono (fun r h c => ?_) (θ_run_and (Cert.Proof.InProjSampleFrame.run_main m g) (Cert.Proof.InProjSampleFrame.frame m g))
    exact ⟨h.1.1 c 12 rfl, h.1.1 c 14 rfl, h.1.1 c 15 rfl, h.1.1 c 16 rfl, h.1.1 c 17 rfl, h.2.1 c⟩
  · refine (θ_run _ _ _).mono (fun r h c => ?_) (Cert.InProjSampleReferenceIdeal.Value.run m' g')
    obtain ⟨e0, e1, e2, e3, e4, e5, e6, e7⟩ := hag c
    exact ⟨
      ((h c).1.trans (val_main_v27_eq _ _ _)).trans (by rw [e0, e1, e2]; exact (Cert.Proof.InProjSampleValue.final_12 m c).symm),
      ((h c).2.1.trans (val_main_v28_eq _)).trans (by rw [e3]; exact (Cert.Proof.InProjSampleValue.final_14 m c).symm),
      ((h c).2.2.1.trans (val_main_v29_eq _)).trans (by rw [e4]; exact (Cert.Proof.InProjSampleValue.final_15 m c).symm),
      ((h c).2.2.2.1.trans (val_main_v23_eq _)).trans (by rw [e5]; exact (Cert.Proof.InProjSampleValue.final_16 m c).symm),
      ((h c).2.2.2.2.1.trans (val_main_v26_eq _)).trans (by rw [e5]; exact (Cert.Proof.InProjSampleValue.final_17 m c).symm),
      (h c).2.2.2.2.2⟩

theorem claim : Cert.Claim :=
  ⟨Cert.Mix.Gen.facts, Cert.MixIdeal.Gen.facts, Cert.MixReferenceIdeal.Gen.facts, Cert.Ffn.Gen.facts, Cert.FfnIdeal.Gen.facts,
    Cert.FfnReferenceIdeal.Gen.facts, Cert.InProj.Gen.facts, Cert.InProjIdeal.Gen.facts, Cert.InProjReferenceIdeal.Gen.facts,
    Cert.Slide.Gen.facts, Cert.SlideIdeal.Gen.facts, Cert.SlideReferenceIdeal.Gen.facts,
    Cert.MixSample.Gen.facts, Cert.MixSampleIdeal.Gen.facts, Cert.MixSampleReferenceIdeal.Gen.facts,
    Cert.InProjSample.Gen.facts, Cert.InProjSampleIdeal.Gen.facts, Cert.InProjSampleReferenceIdeal.Gen.facts,
    Cert.Proof.BitFrames.frame_mix, fun m ρ _ => Cert.Proof.MixFrame.frame m ρ, fun m ρ _ => (θ_run _ _ _).mono (fun r h => ⟨fun c => (h c).2.2.2.2.2.2, sem_eq_zero_of_no_sems rfl r.2⟩) (Cert.MixReferenceIdeal.Value.run m ρ),
    Cert.Proof.BitFrames.frame_ffn, fun m ρ _ => Cert.Proof.FfnFrame.frame m ρ, fun m ρ _ => (θ_run _ _ _).mono (fun r h => ⟨fun c => (h c).2, sem_eq_zero_of_no_sems rfl r.2⟩) (Cert.FfnReferenceIdeal.Value.run m ρ),
    fun m ρ _ => Cert.InProj.Gen.frame m ρ, fun m ρ _ => Cert.InProjIdeal.Gen.frame m ρ, fun m ρ _ => (θ_run _ _ _).mono (fun r h => ⟨fun c => (h c).2.2, sem_eq_zero_of_no_sems rfl r.2⟩) (Cert.InProjReferenceIdeal.Value.run m ρ),
    fun m ρ _ => Cert.Slide.Gen.frame m ρ, fun m ρ _ => Cert.SlideIdeal.Gen.frame m ρ, fun m ρ _ => (θ_run _ _ _).mono (fun r h => ⟨fun c => (h c).2.2, sem_eq_zero_of_no_sems rfl r.2⟩) (Cert.SlideReferenceIdeal.Value.run m ρ),
    fun m ρ _ => Cert.MixSample.Gen.frame m ρ, fun m ρ _ => Cert.MixSampleIdeal.Gen.frame m ρ, fun m ρ _ => (θ_run _ _ _).mono (fun r h => ⟨fun c => (h c).2.2.2, sem_eq_zero_of_no_sems rfl r.2⟩) (Cert.MixSampleReferenceIdeal.Value.run m ρ),
    Cert.Proof.BitFrames.frame_inProjSample, fun m ρ _ => Cert.Proof.InProjSampleFrame.frame m ρ, fun m ρ _ => (θ_run _ _ _).mono (fun r h => ⟨fun c => (h c).2.2.2.2.2, sem_eq_zero_of_no_sems rfl r.2⟩) (Cert.InProjSampleReferenceIdeal.Value.run m ρ),
    trivial, algebraic_mix, trivial, algebraic_ffn, trivial, algebraic_inProj, trivial, algebraic_slide, trivial, algebraic_mixSample,
    trivial, algebraic_inProjSample⟩

end Cert.Proof

end
